-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v17_1)) (v2 : (c : Dev Cert.KernelIdeal.nD) → Buf (Elt Ideal) ((c.tc : Thread Cert.KernelIdeal.nD Cert.KernelIdeal.τ).loc Cert.KernelIdeal.main_v17_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v17_1) = v1 c
          ∧ r.2.mem ((c.tc : Thread Cert.KernelIdeal.nD Cert.KernelIdeal.τ).loc Cert.KernelIdeal.main_v17_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_v79) = v1 c
          ∧ r.2.mem ((c.tc : Thread Cert.ReferenceIdeal.nD Cert.ReferenceIdeal.τ).loc Cert.ReferenceIdeal.main_v47) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32768x3 : Shape := ⟨2, ![32768, 3]⟩
abbrev S4 : Shape := ⟨1, ![4]⟩
abbrev S8192x3 : Shape := ⟨2, ![8192, 3]⟩
abbrev S8192x1 : Shape := ⟨2, ![8192, 1]⟩
abbrev S32768x64 : Shape := ⟨2, ![32768, 64]⟩
abbrev S_ : Shape := ⟨0, ![]⟩
abbrev S1x1 : Shape := ⟨2, ![1, 1]⟩
abbrev S4x8192x3 : Shape := ⟨3, ![4, 8192, 3]⟩
abbrev S4x3x8192 : Shape := ⟨3, ![4, 3, 8192]⟩
abbrev S4x3x8x1024 : Shape := ⟨4, ![4, 3, 8, 1024]⟩
abbrev S4x8x3x1024 : Shape := ⟨4, ![4, 8, 3, 1024]⟩
abbrev S32768x67 : Shape := ⟨2, ![32768, 67]⟩
abbrev S4x8x1024x67 : Shape := ⟨4, ![4, 8, 1024, 67]⟩
abbrev S4x2048x3 : Shape := ⟨3, ![4, 2048, 3]⟩
abbrev S4x2048x1 : Shape := ⟨3, ![4, 2048, 1]⟩
abbrev S8192x32x67 : Shape := ⟨3, ![8192, 32, 67]⟩
abbrev S8192x32 : Shape := ⟨2, ![8192, 32]⟩
abbrev S1x8x3x1024 : Shape := ⟨4, ![1, 8, 3, 1024]⟩
abbrev S1x8x1024x67 : Shape := ⟨4, ![1, 8, 1024, 67]⟩
abbrev S1x128x3 : Shape := ⟨3, ![1, 128, 3]⟩
abbrev S1x128x1 : Shape := ⟨3, ![1, 128, 1]⟩
abbrev S128x32x67 : Shape := ⟨3, ![128, 32, 67]⟩
abbrev S128x32 : Shape := ⟨2, ![128, 32]⟩
abbrev S128x3 : Shape := ⟨2, ![128, 3]⟩
abbrev S128x1 : Shape := ⟨2, ![128, 1]⟩
abbrev S1x1024 : Shape := ⟨2, ![1, 1024]⟩
abbrev S1 : Shape := ⟨1, ![1]⟩
abbrev S1x1x1 : Shape := ⟨3, ![1, 1, 1]⟩
abbrev S1x1x3x1024 : Shape := ⟨4, ![1, 1, 3, 1024]⟩
abbrev S3x1024 : Shape := ⟨2, ![3, 1024]⟩
abbrev S1024 : Shape := ⟨1, ![1024]⟩
abbrev S1x1x1024x67 : Shape := ⟨4, ![1, 1, 1024, 67]⟩
abbrev S1024x67 : Shape := ⟨2, ![1024, 67]⟩
abbrev S128x1024 : Shape := ⟨2, ![128, 1024]⟩
abbrev S128x1023 : Shape := ⟨2, ![128, 1023]⟩
abbrev S128x2 : Shape := ⟨2, ![128, 2]⟩
abbrev S128x1022 : Shape := ⟨2, ![128, 1022]⟩
abbrev S128x4 : Shape := ⟨2, ![128, 4]⟩
abbrev S128x1020 : Shape := ⟨2, ![128, 1020]⟩
abbrev S128x8 : Shape := ⟨2, ![128, 8]⟩
abbrev S128x1016 : Shape := ⟨2, ![128, 1016]⟩
abbrev S128x16 : Shape := ⟨2, ![128, 16]⟩
abbrev S128x1008 : Shape := ⟨2, ![128, 1008]⟩
abbrev S128x992 : Shape := ⟨2, ![128, 992]⟩
abbrev S128x64 : Shape := ⟨2, ![128, 64]⟩
abbrev S128x960 : Shape := ⟨2, ![128, 960]⟩
abbrev S128x128 : Shape := ⟨2, ![128, 128]⟩
abbrev S128x896 : Shape := ⟨2, ![128, 896]⟩
abbrev S128x256 : Shape := ⟨2, ![128, 256]⟩
abbrev S128x768 : Shape := ⟨2, ![128, 768]⟩
abbrev S128x512 : Shape := ⟨2, ![128, 512]⟩
abbrev S128x67 : Shape := ⟨2, ![128, 67]⟩
abbrev S128x1x67 : Shape := ⟨3, ![128, 1, 67]⟩
abbrev S128 : Shape := ⟨1, ![128]⟩
abbrev S8192x67x32 : Shape := ⟨3, ![8192, 67, 32]⟩

abbrev nBuf : Space → Nat
  | .hbm => 30
  | .vmem => 17
  | .smem => 0
  | _ => 0

abbrev bufTy : (tb : Table) → Fin (tcTables nBuf tb) → BufTy
  | .hbm, ⟨0, _⟩ => ⟨S32768x3, .f32⟩
  | .hbm, ⟨1, _⟩ => ⟨S4, .i32⟩
  | .hbm, ⟨2, _⟩ => ⟨S8192x3, .f32⟩
  | .hbm, ⟨3, _⟩ => ⟨S8192x1, .f32⟩
  | .hbm, ⟨4, _⟩ => ⟨S4, .i32⟩
  | .hbm, ⟨5, _⟩ => ⟨S32768x64, .f32⟩
  | .hbm, ⟨6, _⟩ => ⟨S_, .i32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S1x1, .f32⟩
  | .hbm, ⟨17, _⟩ => ⟨S4x8192x3, .f32⟩
  | .hbm, ⟨18, _⟩ => ⟨S4x3x8192, .f32⟩
  | .hbm, ⟨19, _⟩ => ⟨S4x3x8x1024, .f32⟩
  | .hbm, ⟨20, _⟩ => ⟨S4x8x3x1024, .f32⟩
  | .hbm, ⟨21, _⟩ => ⟨S32768x67, .f32⟩
  | .hbm, ⟨22, _⟩ => ⟨S4x8x1024x67, .f32⟩
  | .hbm, ⟨23, _⟩ => ⟨S4x2048x3, .f32⟩
  | .hbm, ⟨24, _⟩ => ⟨S4x2048x1, .f32⟩
  | .hbm, ⟨25, _⟩ => ⟨S4x2048x1, .f32⟩
  | .hbm, ⟨26, _⟩ => ⟨S8192x32x67, .f32⟩
  | .hbm, ⟨27, _⟩ => ⟨S8192x32, .f32⟩
  | .hbm, ⟨28, _⟩ => ⟨S8192x32, .i32⟩
  | .hbm, ⟨29, _⟩ => ⟨S8192x67x32, .f32⟩
  | .local _ .vmem, ⟨0, _⟩ => ⟨S1x1, .f32⟩
  | .local _ .vmem, ⟨1, _⟩ => ⟨S1x8x3x1024, .f32⟩
  | .local _ .vmem, ⟨2, _⟩ => ⟨S1x8x3x1024, .f32⟩
  | .local _ .vmem, ⟨3, _⟩ => ⟨S1x8x1024x67, .f32⟩
  | .local _ .vmem, ⟨4, _⟩ => ⟨S1x8x1024x67, .f32⟩
  | .local _ .vmem, ⟨5, _⟩ => ⟨S1x128x3, .f32⟩
  | .local _ .vmem, ⟨6, _⟩ => ⟨S1x128x3, .f32⟩
  | .local _ .vmem, ⟨7, _⟩ => ⟨S1x128x1, .f32⟩
  | .local _ .vmem, ⟨8, _⟩ => ⟨S1x128x1, .f32⟩
  | .local _ .vmem, ⟨9, _⟩ => ⟨S1x128x1, .f32⟩
  | .local _ .vmem, ⟨10, _⟩ => ⟨S1x128x1, .f32⟩
  | .local _ .vmem, ⟨11, _⟩ => ⟨S128x32x67, .f32⟩
  | .local _ .vmem, ⟨12, _⟩ => ⟨S128x32x67, .f32⟩
  | .local _ .vmem, ⟨13, _⟩ => ⟨S128x32, .f32⟩
  | .local _ .vmem, ⟨14, _⟩ => ⟨S128x32, .f32⟩
  | .local _ .vmem, ⟨15, _⟩ => ⟨S128x32, .i32⟩
  | .local _ .vmem, ⟨16, _⟩ => ⟨S128x32, .i32⟩
  | _, _ => ⟨S32768x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17_0 : Ref sig .tc := ⟨.hbm, 26, rfl⟩
abbrev main_v17_1 : Ref sig .tc := ⟨.hbm, 27, rfl⟩
abbrev main_v17_2 : Ref sig .tc := ⟨.hbm, 28, rfl⟩
abbrev main_v18 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![4, 16], ![false, false]⟩

def k0_off1 (arg11 : BitVec 32) : Fin 4 → Nat :=
  let c0_546 : Index := 0#32
  let v1602 : Index := Scalar.indexCast arg11
  let c0_547 : Index := 0#32
  let c0_548 : Index := 0#32
  ![0, v1602.toNat, 0, 0]

def k0_off2 (arg11 : BitVec 32) : Fin 4 → Nat :=
  let c0_549 : Index := 0#32
  let v1614 : Index := Scalar.indexCast arg11
  let c0_550 : Index := 0#32
  let c0_551 : Index := 0#32
  ![0, v1614.toNat, 0, 0]

def k0_chk1 (arg11 : BitVec 32) : Prop :=
  (∀ a, (k0_off1 arg11) a + S1x1x3x1024.size a ≤ S1x8x3x1024.size a) ∧
  (∀ a, (k0_off2 arg11) a + S1x1x1024x67.size a ≤ S1x8x1024x67.size a)
theorem k0_off1_inb : ∀ (arg11 : BitVec 32) (k0_hw1 : k0_chk1 arg11), ∀ a, (k0_off1 arg11) a + S1x1x3x1024.size a ≤ S1x8x3x1024.size a := fun arg11 k0_hw1 => k0_hw1.1
theorem k0_off2_inb : ∀ (arg11 : BitVec 32) (k0_hw1 : k0_chk1 arg11), ∀ a, (k0_off2 arg11) a + S1x1x1024x67.size a ≤ S1x8x1024x67.size a := fun arg11 k0_hw1 => k0_hw1.2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x8x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x1024x67 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x32x67 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x32 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S32768x3 : Shape := ⟨2, ![32768, 3]⟩
abbrev S4 : Shape := ⟨1, ![4]⟩
abbrev S8192x3 : Shape := ⟨2, ![8192, 3]⟩
abbrev S8192x1 : Shape := ⟨2, ![8192, 1]⟩
abbrev S32768x64 : Shape := ⟨2, ![32768, 64]⟩
abbrev S_ : Shape := ⟨0, ![]⟩
abbrev S4x8192x3 : Shape := ⟨3, ![4, 8192, 3]⟩
abbrev S4x2048x3 : Shape := ⟨3, ![4, 2048, 3]⟩
abbrev S4x2048 : Shape := ⟨2, ![4, 2048]⟩
abbrev S4x2048x1 : Shape := ⟨3, ![4, 2048, 1]⟩
abbrev S4x8192 : Shape := ⟨2, ![4, 8192]⟩
abbrev S4x1x8192 : Shape := ⟨3, ![4, 1, 8192]⟩
abbrev S4x2048x8192 : Shape := ⟨3, ![4, 2048, 8192]⟩
abbrev S4x2048x32 : Shape := ⟨3, ![4, 2048, 32]⟩
abbrev S32 : Shape := ⟨1, ![32]⟩
abbrev S1x1x32 : Shape := ⟨3, ![1, 1, 32]⟩
abbrev S8192x32 : Shape := ⟨2, ![8192, 32]⟩
abbrev S8192 : Shape := ⟨1, ![8192]⟩
abbrev S8192x32x1 : Shape := ⟨3, ![8192, 32, 1]⟩
abbrev S1 : Shape := ⟨1, ![1]⟩
abbrev S1x1x1 : Shape := ⟨3, ![1, 1, 1]⟩
abbrev S8192x32x3 : Shape := ⟨3, ![8192, 32, 3]⟩
abbrev S8192x3x32 : Shape := ⟨3, ![8192, 3, 32]⟩
abbrev S8192x3x1 : Shape := ⟨3, ![8192, 3, 1]⟩
abbrev S8192x1x1 : Shape := ⟨3, ![8192, 1, 1]⟩
abbrev S8192x32x64 : Shape := ⟨3, ![8192, 32, 64]⟩
abbrev S8192x64x32 : Shape := ⟨3, ![8192, 64, 32]⟩
abbrev S8192x67x32 : Shape := ⟨3, ![8192, 67, 32]⟩

abbrev nBuf : Space → Nat
  | .hbm => 168
  | .vmem => 0
  | .smem => 0
  | _ => 0

abbrev hbmTy0_0 (i : Nat) : BufTy := match i % 128 with
  | 0 => ⟨S32768x3, .f32⟩
  | 1 => ⟨S4, .i32⟩
  | 2 => ⟨S8192x3, .f32⟩
  | 3 => ⟨S8192x1, .f32⟩
  | 4 => ⟨S4, .i32⟩
  | 5 => ⟨S32768x64, .f32⟩
  | 6 => ⟨S_, .i32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S8192x1, .f32⟩
  | 14 => ⟨S8192x1, .f32⟩
  | 15 => ⟨S4x8192x3, .f32⟩
  | 16 => ⟨S4x2048x3, .f32⟩
  | 17 => ⟨S4x2048, .f32⟩
  | 18 => ⟨S4x2048x3, .f32⟩
  | 19 => ⟨S_, .f32⟩
  | 20 => ⟨S4x2048, .f32⟩
  | 21 => ⟨S4x2048x1, .f32⟩
  | 22 => ⟨S4x8192x3, .f32⟩
  | 23 => ⟨S_, .f32⟩
  | 24 => ⟨S4x8192, .f32⟩
  | 25 => ⟨S4x1x8192, .f32⟩
  | 26 => ⟨S4x2048x8192, .f32⟩
  | 27 => ⟨S4x2048x8192, .f32⟩
  | 28 => ⟨S4x2048x8192, .f32⟩
  | 29 => ⟨S4x2048x8192, .f32⟩
  | 30 => ⟨S_, .f32⟩
  | 31 => ⟨S4x2048x8192, .f32⟩
  | 32 => ⟨S4x2048x8192, .f32⟩
  | 33 => ⟨S4x2048x8192, .f32⟩
  | 34 => ⟨S4x2048x1, .f32⟩
  | 35 => ⟨S4x2048x1, .f32⟩
  | 36 => ⟨S4x2048x1, .f32⟩
  | 37 => ⟨S4x2048x8192, .f32⟩
  | 38 => ⟨S4x2048x8192, .i1⟩
  | 39 => ⟨S_, .i32⟩
  | 40 => ⟨S_, .i32⟩
  | 41 => ⟨S4x2048x8192, .i32⟩
  | 42 => ⟨S4x2048x8192, .i32⟩
  | 43 => ⟨S4x2048x8192, .i32⟩
  | 44 => ⟨S4x2048x8192, .i32⟩
  | 45 => ⟨S4x2048x8192, .i32⟩
  | 46 => ⟨S4x2048x8192, .i32⟩
  | 47 => ⟨S4x2048x8192, .i32⟩
  | 48 => ⟨S4x2048x32, .i32⟩
  | 49 => ⟨S4x2048x8192, .i32⟩
  | 50 => ⟨S_, .i32⟩
  | 51 => ⟨S4x2048, .i32⟩
  | 52 => ⟨S32, .i32⟩
  | 53 => ⟨S1x1x32, .i32⟩
  | 54 => ⟨S4x2048x1, .i32⟩
  | 55 => ⟨S_, .i32⟩
  | 56 => ⟨S4x2048, .i32⟩
  | 57 => ⟨S4x2048, .i32⟩
  | 58 => ⟨S4x2048x1, .i32⟩
  | 59 => ⟨S4x2048x32, .i32⟩
  | 60 => ⟨S4x2048x32, .i32⟩
  | 61 => ⟨S4x2048x32, .i1⟩
  | 62 => ⟨S4x2048x32, .i32⟩
  | 63 => ⟨S4x2048x32, .i32⟩
  | 64 => ⟨S_, .i32⟩
  | 65 => ⟨S4x2048, .i32⟩
  | 66 => ⟨S4x2048, .i1⟩
  | 67 => ⟨S4x2048x1, .i1⟩
  | 68 => ⟨S_, .i32⟩
  | 69 => ⟨S_, .i32⟩
  | 70 => ⟨S4x2048x32, .i1⟩
  | 71 => ⟨S4x2048x32, .i32⟩
  | 72 => ⟨S4x2048x32, .i32⟩
  | 73 => ⟨S8192x32, .i32⟩
  | 74 => ⟨S8192, .i1⟩
  | 75 => ⟨S4, .i32⟩
  | 76 => ⟨S_, .i32⟩
  | 77 => ⟨S4, .i32⟩
  | 78 => ⟨S4, .i32⟩
  | 79 => ⟨S4x2048, .i32⟩
  | 80 => ⟨S8192, .i32⟩
  | 81 => ⟨S8192x1, .i32⟩
  | 82 => ⟨S8192x32, .i32⟩
  | 83 => ⟨S8192x32, .i32⟩
  | 84 => ⟨S_, .i32⟩
  | 85 => ⟨S8192x32, .i32⟩
  | 86 => ⟨S8192x32, .i1⟩
  | 87 => ⟨S_, .i32⟩
  | 88 => ⟨S8192x32, .i32⟩
  | 89 => ⟨S8192x32, .i32⟩
  | 90 => ⟨S8192x32, .i32⟩
  | 91 => ⟨S8192x32x1, .i32⟩
  | 92 => ⟨S1, .i32⟩
  | 93 => ⟨S_, .i32⟩
  | 94 => ⟨S8192x32x1, .i32⟩
  | 95 => ⟨S8192x32x1, .i1⟩
  | 96 => ⟨S1x1x1, .i32⟩
  | 97 => ⟨S8192x32x1, .i32⟩
  | 98 => ⟨S8192x32x1, .i1⟩
  | 99 => ⟨S8192x32x1, .i1⟩
  | 100 => ⟨S_, .i1⟩
  | 101 => ⟨S8192x32, .i1⟩
  | 102 => ⟨S8192x32x3, .f32⟩
  | 103 => ⟨S8192x32x3, .i1⟩
  | 104 => ⟨S_, .f32⟩
  | 105 => ⟨S8192x32x3, .f32⟩
  | 106 => ⟨S8192x32x3, .f32⟩
  | 107 => ⟨S8192x3x32, .f32⟩
  | 108 => ⟨S8192x3x1, .f32⟩
  | 109 => ⟨S8192x3x32, .f32⟩
  | 110 => ⟨S8192x3x32, .f32⟩
  | 111 => ⟨S8192x1x1, .i1⟩
  | 112 => ⟨S_, .f32⟩
  | 113 => ⟨S_, .f32⟩
  | 114 => ⟨S8192x3x32, .i1⟩
  | 115 => ⟨S8192x3x32, .f32⟩
  | 116 => ⟨S8192x3x32, .f32⟩
  | 117 => ⟨S8192x3x32, .f32⟩
  | 118 => ⟨S_, .f32⟩
  | 119 => ⟨S8192x32, .f32⟩
  | 120 => ⟨S8192x32, .f32⟩
  | 121 => ⟨S8192x32, .f32⟩
  | 122 => ⟨S8192x32, .f32⟩
  | 123 => ⟨S_, .f32⟩
  | 124 => ⟨S8192x32, .f32⟩
  | 125 => ⟨S8192x32, .f32⟩
  | 126 => ⟨S8192x32, .f32⟩
  | 127 => ⟨S8192x32, .f32⟩
  | _ => ⟨S32768x3, .f32⟩

abbrev hbmTy0_1 (i : Nat) : BufTy := match i % 128 with
  | 0 => ⟨S_, .f32⟩
  | 1 => ⟨S8192x32, .f32⟩
  | 2 => ⟨S8192x32, .f32⟩
  | 3 => ⟨S_, .f32⟩
  | 4 => ⟨S8192x32, .f32⟩
  | 5 => ⟨S8192x32, .f32⟩
  | 6 => ⟨S_, .f32⟩
  | 7 => ⟨S8192x32, .f32⟩
  | 8 => ⟨S8192x32, .f32⟩
  | 9 => ⟨S_, .i32⟩
  | 10 => ⟨S8192x32, .i32⟩
  | 11 => ⟨S8192x32, .i1⟩
  | 12 => ⟨S_, .i32⟩
  | 13 => ⟨S8192x32, .i32⟩
  | 14 => ⟨S8192x32, .i32⟩
  | 15 => ⟨S8192x32, .i32⟩
  | 16 => ⟨S8192x32x1, .i32⟩
  | 17 => ⟨S1, .i32⟩
  | 18 => ⟨S_, .i32⟩
  | 19 => ⟨S8192x32x1, .i32⟩
  | 20 => ⟨S8192x32x1, .i1⟩
  | 21 => ⟨S1x1x1, .i32⟩
  | 22 => ⟨S8192x32x1, .i32⟩
  | 23 => ⟨S8192x32x1, .i1⟩
  | 24 => ⟨S8192x32x1, .i1⟩
  | 25 => ⟨S_, .i1⟩
  | 26 => ⟨S8192x32, .i1⟩
  | 27 => ⟨S8192x32x64, .f32⟩
  | 28 => ⟨S8192x32x64, .i1⟩
  | 29 => ⟨S_, .f32⟩
  | 30 => ⟨S8192x32x64, .f32⟩
  | 31 => ⟨S8192x32x64, .f32⟩
  | 32 => ⟨S8192x64x32, .f32⟩
  | 33 => ⟨S8192x1x1, .i1⟩
  | 34 => ⟨S_, .f32⟩
  | 35 => ⟨S_, .f32⟩
  | 36 => ⟨S8192x64x32, .i1⟩
  | 37 => ⟨S8192x64x32, .f32⟩
  | 38 => ⟨S8192x64x32, .f32⟩
  | 39 => ⟨S8192x67x32, .f32⟩
  | _ => ⟨S32768x3, .f32⟩

abbrev hbmTy (i : Nat) : BufTy := match i / 128 with
  | 0 => hbmTy0_0 i
  | 1 => hbmTy0_1 i
  | _ => ⟨S32768x3, .f32⟩

abbrev bufTy : (tb : Table) → Fin (tcTables nBuf tb) → BufTy
  | .hbm, ⟨i, _⟩ => hbmTy i
  | _, _ => ⟨S32768x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c : Ref sig .tc := ⟨.hbm, 39, rfl⟩
abbrev main_c_4 : Ref sig .tc := ⟨.hbm, 40, rfl⟩
abbrev main_call0_v0 : Ref sig .tc := ⟨.hbm, 41, rfl⟩
abbrev main_call0_v1 : Ref sig .tc := ⟨.hbm, 42, rfl⟩
abbrev main_v27 : Ref sig .tc := ⟨.hbm, 43, rfl⟩
abbrev main_v28 : Ref sig .tc := ⟨.hbm, 44, rfl⟩
abbrev main_call1_v0 : Ref sig .tc := ⟨.hbm, 45, rfl⟩
abbrev main_call1_v1_0 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_6 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_call2_v0 : Ref sig .tc := ⟨.hbm, 62, rfl⟩
abbrev main_v42 : Ref sig .tc := ⟨.hbm, 63, rfl⟩
abbrev main_c_7 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_c_8 : Ref sig .tc := ⟨.hbm, 68, rfl⟩
abbrev main_call3_v0 : Ref sig .tc := ⟨.hbm, 69, rfl⟩
abbrev main_call3_v1 : Ref sig .tc := ⟨.hbm, 70, rfl⟩
abbrev main_call3_v2 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_c_9 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_call4_c : Ref sig .tc := ⟨.hbm, 84, rfl⟩
abbrev main_call4_v0 : Ref sig .tc := ⟨.hbm, 85, rfl⟩
abbrev main_call4_v1 : Ref sig .tc := ⟨.hbm, 86, rfl⟩
abbrev main_call4_c_0 : Ref sig .tc := ⟨.hbm, 87, rfl⟩
abbrev main_call4_v2 : Ref sig .tc := ⟨.hbm, 88, rfl⟩
abbrev main_call4_v3 : Ref sig .tc := ⟨.hbm, 89, rfl⟩
abbrev main_call4_v4 : Ref sig .tc := ⟨.hbm, 90, rfl⟩
abbrev main_call4_v5 : Ref sig .tc := ⟨.hbm, 91, rfl⟩
abbrev main_call4_c_1 : Ref sig .tc := ⟨.hbm, 92, rfl⟩
abbrev main_call4_c_2 : Ref sig .tc := ⟨.hbm, 93, rfl⟩
abbrev main_call4_v6 : Ref sig .tc := ⟨.hbm, 94, rfl⟩
abbrev main_call4_v7 : Ref sig .tc := ⟨.hbm, 95, rfl⟩
abbrev main_call4_v8 : Ref sig .tc := ⟨.hbm, 96, rfl⟩
abbrev main_call4_v9 : Ref sig .tc := ⟨.hbm, 97, rfl⟩
abbrev main_call4_v10 : Ref sig .tc := ⟨.hbm, 98, rfl⟩
abbrev main_call4_v11 : Ref sig .tc := ⟨.hbm, 99, rfl⟩
abbrev main_call4_c_3 : Ref sig .tc := ⟨.hbm, 100, rfl⟩
abbrev main_call4_v12 : Ref sig .tc := ⟨.hbm, 101, rfl⟩
abbrev main_call4_v13 : Ref sig .tc := ⟨.hbm, 102, rfl⟩
abbrev main_call4_v14 : Ref sig .tc := ⟨.hbm, 103, rfl⟩
abbrev main_call4_cst : Ref sig .tc := ⟨.hbm, 104, rfl⟩
abbrev main_call4_v15 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_cst_10 : Ref sig .tc := ⟨.hbm, 112, rfl⟩
abbrev main_call5_v0 : Ref sig .tc := ⟨.hbm, 113, rfl⟩
abbrev main_call5_v1 : Ref sig .tc := ⟨.hbm, 114, rfl⟩
abbrev main_call5_v2 : Ref sig .tc := ⟨.hbm, 115, rfl⟩
abbrev main_v63 : Ref sig .tc := ⟨.hbm, 116, rfl⟩
abbrev main_v64 : Ref sig .tc := ⟨.hbm, 117, rfl⟩
abbrev main_cst_11 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_cst_12 : Ref sig .tc := ⟨.hbm, 128, rfl⟩
abbrev main_v74 : Ref sig .tc := ⟨.hbm, 129, rfl⟩
abbrev main_v75 : Ref sig .tc := ⟨.hbm, 130, rfl⟩
abbrev main_cst_13 : Ref sig .tc := ⟨.hbm, 131, rfl⟩
abbrev main_v76 : Ref sig .tc := ⟨.hbm, 132, rfl⟩
abbrev main_v77 : Ref sig .tc := ⟨.hbm, 133, rfl⟩
abbrev main_cst_14 : Ref sig .tc := ⟨.hbm, 134, rfl⟩
abbrev main_v78 : Ref sig .tc := ⟨.hbm, 135, rfl⟩
abbrev main_v79 : Ref sig .tc := ⟨.hbm, 136, rfl⟩
abbrev main_call6_c : Ref sig .tc := ⟨.hbm, 137, rfl⟩
abbrev main_call6_v0 : Ref sig .tc := ⟨.hbm, 138, rfl⟩
abbrev main_call6_v1 : Ref sig .tc := ⟨.hbm, 139, rfl⟩
abbrev main_call6_c_0 : Ref sig .tc := ⟨.hbm, 140, rfl⟩
abbrev main_call6_v2 : Ref sig .tc := ⟨.hbm, 141, rfl⟩
abbrev main_call6_v3 : Ref sig .tc := ⟨.hbm, 142, rfl⟩
abbrev main_call6_v4 : Ref sig .tc := ⟨.hbm, 143, rfl⟩
abbrev main_call6_v5 : Ref sig .tc := ⟨.hbm, 144, rfl⟩
abbrev main_call6_c_1 : Ref sig .tc := ⟨.hbm, 145, rfl⟩
abbrev main_call6_c_2 : Ref sig .tc := ⟨.hbm, 146, rfl⟩
abbrev main_call6_v6 : Ref sig .tc := ⟨.hbm, 147, rfl⟩
abbrev main_call6_v7 : Ref sig .tc := ⟨.hbm, 148, rfl⟩
abbrev main_call6_v8 : Ref sig .tc := ⟨.hbm, 149, rfl⟩
abbrev main_call6_v9 : Ref sig .tc := ⟨.hbm, 150, rfl⟩
abbrev main_call6_v10 : Ref sig .tc := ⟨.hbm, 151, rfl⟩
abbrev main_call6_v11 : Ref sig .tc := ⟨.hbm, 152, rfl⟩
abbrev main_call6_c_3 : Ref sig .tc := ⟨.hbm, 153, rfl⟩
abbrev main_call6_v12 : Ref sig .tc := ⟨.hbm, 154, rfl⟩
abbrev main_call6_v13 : Ref sig .tc := ⟨.hbm, 155, rfl⟩
abbrev main_call6_v14 : Ref sig .tc := ⟨.hbm, 156, rfl⟩
abbrev main_call6_cst : Ref sig .tc := ⟨.hbm, 157, rfl⟩
abbrev main_call6_v15 : Ref sig .tc := ⟨.hbm, 158, rfl⟩
abbrev main_v80 : Ref sig .tc := ⟨.hbm, 159, rfl⟩
abbrev main_v81 : Ref sig .tc := ⟨.hbm, 160, rfl⟩
abbrev main_v82 : Ref sig .tc := ⟨.hbm, 161, rfl⟩
abbrev main_cst_15 : Ref sig .tc := ⟨.hbm, 162, rfl⟩
abbrev main_call7_v0 : Ref sig .tc := ⟨.hbm, 163, rfl⟩
abbrev main_call7_v1 : Ref sig .tc := ⟨.hbm, 164, rfl⟩
abbrev main_call7_v2 : Ref sig .tc := ⟨.hbm, 165, rfl⟩
abbrev main_v83 : Ref sig .tc := ⟨.hbm, 166, rfl⟩
abbrev main_v84 : Ref sig .tc := ⟨.hbm, 167, rfl⟩

abbrev nD : Nat := 1
abbrev τ : Topo := Topo.v7x

variable {F : FTy → Type} [FloatOps F]
-- ==== Proof.KernelIdeal.Loop.lean ====
/-
  The search loop of `KernelIdeal`, and the kernel body around it, run on any memory: every access is inside its buffer, the
  loop ends after at most eight trips, and the nine staging buffers are handed back. What the buffers hold afterwards is
  not said here (the frame claim does not ask).
-/
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.FrameBody
public import Idealize.ShloMosaic.Lib.Pipeline.FrameSuffix
public import Idealize.ShloMosaic.Lib.Tactic
public import Idealize.ShloMosaic.Lib.WordCmp

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The variants of the loop's label: the number of chunks left. -/
abbrev 𝒱₀ : Variants := Variants.nat

/-- The four buffers the loop touches, each whole at some contents. -/
def held (c : Dev nD) (arg3 : Memref sig .tc .vmem S1x8x3x1024 .f32) (arg4 : Memref sig .tc .vmem S1x8x1024x67 .f32)
    (arg8 : Memref sig .tc .vmem S128x32x67 .f32) (arg10 : Memref sig .tc .vmem S128x32 .i32) : sProp 𝕄 :=
  iprop((∃ f, arg3.view.loc (c : Thread nD τ) ↦{fullShare} f) ∗ (∃ f, arg4.view.loc (c : Thread nD τ) ↦{fullShare} f)
    ∗ (∃ f, arg8.view.loc (c : Thread nD τ) ↦{fullShare} f) ∗ (∃ f, arg10.view.loc (c : Thread nD τ) ↦{fullShare} f))

/-- The loop takes the four buffers and hands them back, returning something. -/
def spec (c : Dev nD) (arg3 : Memref sig .tc .vmem S1x8x3x1024 .f32) (arg4 : Memref sig .tc .vmem S1x8x1024x67 .f32)
    (arg8 : Memref sig .tc .vmem S128x32x67 .f32) (arg10 : Memref sig .tc .vmem S128x32 .i32) :
    sWPT 𝕄 (BitVec 32 × IVec S128x1 32) := do
  sWPT.consume (held (F := F) c arg3 arg4 arg8 arg10)
  let r ← sWPT.arbitrary
  sWPT.produce (held (F := F) c arg3 arg4 arg8 arg10)
  pure r

theorem spec_apply (c : Dev nD) (arg3 : Memref sig .tc .vmem S1x8x3x1024 .f32) (arg4 : Memref sig .tc .vmem S1x8x1024x67 .f32)
    (arg8 : Memref sig .tc .vmem S128x32x67 .f32) (arg10 : Memref sig .tc .vmem S128x32 .i32)
    (K : BitVec 32 × IVec S128x1 32 → sProp 𝕄) :
    spec (F := F) c arg3 arg4 arg8 arg10 K
      = iprop(held (F := F) c arg3 arg4 arg8 arg10 ∗ ∀ r, (held (F := F) c arg3 arg4 arg8 arg10 -∗ K r)) := rfl

/-- The chunk a counter below eight names lies inside the arrays. -/
theorem chk_of_lt : ∀ j < 8, k0_chk1 (BitVec.ofNat 32 j) := by decide

/-- The counter after one more trip. -/
theorem addi_succ : ∀ j < 8, Scalar.addi (BitVec.ofNat 32 j) 1#32 = BitVec.ofNat 32 (j + 1) := by decide

/-- A counter at eight stops the loop, whatever the other half of the test says. -/
theorem test_done (b : BitVec 1) : ¬ Scalar.andi (Scalar.cmpi .slt (BitVec.ofNat 32 8) 8#32) b = 1#1 := by
  revert b; decide

set_option maxHeartbeats 4000000 in
/-- The label's body, entered at counter `j` with `k` chunks left (`j + k = 8`), meets its specification: by induction on `k`. -/
theorem spec_le (c : Dev nD) (E : Set ℕ) (i : grid0.Coords)
    (arg3 : Memref sig .tc .vmem S1x8x3x1024 .f32) (harg3 : arg3.IsWhole) (arg4 : Memref sig .tc .vmem S1x8x1024x67 .f32) (harg4 : arg4.IsWhole)
    (v3 : FVec F S128x3 .f32) (v19 : FVec F S128x1 .f32) (v14 : FVec F S128x1 .f32) (v24 : IVec S1x1024 32)
    (arg8 : Memref sig .tc .vmem S128x32x67 .f32) (harg8 : arg8.IsWhole) (arg10 : Memref sig .tc .vmem S128x32 .i32) (harg10 : arg10.IsWhole) :
    ∀ k j, j + k = 8 → ∀ (arg12 : IVec S128x1 32) (K : BitVec 32 × IVec S128x1 32 → sProp 𝕄),
      spec (F := F) c arg3 arg4 arg8 arg10 K
      ⊢ wp frame (wpE (defs₀ (F := F)) 𝒱₀ (c : Thread nD τ) (some k)) E
          (defs₀ (F := F) .tc 1 ⟨i, arg3, harg3, arg4, harg4, v3, v19, v14, v24, arg8, harg8, arg10, harg10, BitVec.ofNat 32 j, arg12⟩) K := by
  intro k
  induction k with
  | zero =>
    intro j hj arg12 K
    obtain rfl : j = 8 := by omega
    rw [spec_apply]
    show _ ⊢ wp frame (wpE (defs₀ (F := F)) 𝒱₀ (c : Thread nD τ) (some 0)) E
      (cc0_while1 i arg3 harg3 arg4 harg4 v3 v19 v14 v24 arg8 harg8 arg10 harg10 (BitVec.ofNat 32 8) arg12) K
    simp only [cc0_while1_eq_skeleton]; unfold cc0_while1_skel
    simp only [test_done, ↓reduceIte, Prog.pure_eq_ret]
    iintro ⟨H, Hk⟩
    rw [wp_ret]; imodintro
    iapply Hk; iexact H
  | succ k ih =>
    intro j hj arg12 K
    rw [spec_apply]
    show _ ⊢ wp frame (wpE (defs₀ (F := F)) 𝒱₀ (c : Thread nD τ) (some (k + 1))) E
      (cc0_while1 i arg3 harg3 arg4 harg4 v3 v19 v14 v24 arg8 harg8 arg10 harg10 (BitVec.ofNat 32 j) arg12) K
    have h11 : k0_chk1 (BitVec.ofNat 32 j) := chk_of_lt j (by omega)
    have hadd := addi_succ j (by omega)
    generalize hw : BitVec.ofNat 32 j = w at h11 hadd
    simp only [cc0_while1_eq_skeleton]; unfold cc0_while1_skel
    by_cases ht : (Scalar.andi (Scalar.cmpi .slt w 8#32) (Scalar.cmpi .slt (extractAt ![0, 0, 0] (k0_pay2 arg12) inpos_S1x1x1_p0_0_0) 32#32)) = 1#1
    · simp only [ht, ↓reduceIte]
      unfold held
      iintro ⟨⟨⟨%f3, H3⟩, ⟨%f4, H4⟩, ⟨%f8, H8⟩, ⟨%f10, H10⟩⟩, Hk⟩
      sl_exec_parts (disch := exact h11)
      rw [hadd]
      iapply (wp_call_spec 𝒱₀ (c : Thread nD τ) (some (k + 1)) E (spec (F := F) c arg3 arg4 arg8 arg10) k
        (fun u hu => by cases hu; exact Nat.lt_succ_self k) (ih (j + 1) (by omega) _))
      rw [spec_apply]; unfold held
      isplitl [H3 H4 H8 H10]
      · isplitl [H3]; · iexists _; iexact H3
        isplitl [H4]; · iexists _; iexact H4
        isplitl [H8]; · iexists _; iexact H8
        iexists _; iexact H10
      iintro %r H
      rw [wp_ret]; imodintro
      iapply Hk; iexact H
    · simp only [ht, ↓reduceIte, Prog.pure_eq_ret]
      iintro ⟨H, Hk⟩
      rw [wp_ret]; imodintro
      iapply Hk; iexact H

/-- The call of the loop from counter zero, in a program that goes on with `q`: what its specification asks and gives. -/
theorem wp_loop (c : Dev nD) (E : Set ℕ) (i : grid0.Coords)
    (arg3 : Memref sig .tc .vmem S1x8x3x1024 .f32) (harg3 : arg3.IsWhole) (arg4 : Memref sig .tc .vmem S1x8x1024x67 .f32) (harg4 : arg4.IsWhole)
    (v3 : FVec F S128x3 .f32) (v19 : FVec F S128x1 .f32) (v14 : FVec F S128x1 .f32) (v24 : IVec S1x1024 32)
    (arg8 : Memref sig .tc .vmem S128x32x67 .f32) (harg8 : arg8.IsWhole) (arg10 : Memref sig .tc .vmem S128x32 .i32) (harg10 : arg10.IsWhole)
    (arg12 : IVec S128x1 32) {α : Type} (q : BitVec 32 × IVec S128x1 32 → Prog (TpuEff nD τ sig (Elt F) (Λ₀ F) .tc) α) (K : α → sProp 𝕄) :
    spec (F := F) c arg3 arg4 arg8 arg10 (fun r => wp frame (wpE (defs₀ (F := F)) 𝒱₀ (c : Thread nD τ) none) E (q r) K)
    ⊢ wp frame (wpE (defs₀ (F := F)) 𝒱₀ (c : Thread nD τ) none) E
        (Prog.op (TpuEff.call (1 : (Λ₀ F).Label) ⟨i, arg3, harg3, arg4, harg4, v3, v19, v14, v24, arg8, harg8, arg10, harg10, 0#32, arg12⟩) q) K := by
  have hT := spec_le c E i arg3 harg3 arg4 harg4 v3 v19 v14 v24 arg8 harg8 arg10 harg10 8 0 rfl arg12
  iintro H
  iapply (wp_call_spec 𝒱₀ (c : Thread nD τ) none E (spec (F := F) c arg3 arg4 arg8 arg10) 8 (fun u hu => nomatch hu) hT)
  iexact H

end Cert.Proof.KernelIdeal

end
-- ==== Proof.KernelIdeal.Body.lean ====
module

public import proofs.«01_k».proof.Proof.KernelIdeal.Loop
public import proofs.«01_k».proof.Proof.Gen.KernelIdeal.Points
public import proofs.«01_k».proof.Proof.Gen.KernelIdeal.Skeleton
public import Idealize.ShloMosaic.Lib.Pipeline.FrameBody
public import Idealize.ShloMosaic.Lib.Pipeline.FrameSuffix
public import Idealize.ShloMosaic.Lib.Tactic
public import Idealize.ShloMosaic.Lib.WordCmp

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The nine staging buffers of the body, each whole at some contents. -/
def nine (c : Dev nD) (arg2 : Memref sig .tc .vmem S1x1 .f32)
    (arg3 : Memref sig .tc .vmem S1x8x3x1024 .f32) (arg4 : Memref sig .tc .vmem S1x8x1024x67 .f32)
    (arg5 : Memref sig .tc .vmem S1x128x3 .f32) (arg6 : Memref sig .tc .vmem S1x128x1 .f32) (arg7 : Memref sig .tc .vmem S1x128x1 .f32)
    (arg8 : Memref sig .tc .vmem S128x32x67 .f32) (arg9 : Memref sig .tc .vmem S128x32 .f32) (arg10 : Memref sig .tc .vmem S128x32 .i32) : sProp 𝕄 :=
  iprop((∃ f, arg2.view.loc (c : Thread nD τ) ↦{fullShare} f) ∗ (∃ f, arg3.view.loc (c : Thread nD τ) ↦{fullShare} f)
    ∗ (∃ f, arg4.view.loc (c : Thread nD τ) ↦{fullShare} f) ∗ (∃ f, arg5.view.loc (c : Thread nD τ) ↦{fullShare} f)
    ∗ (∃ f, arg6.view.loc (c : Thread nD τ) ↦{fullShare} f) ∗ (∃ f, arg7.view.loc (c : Thread nD τ) ↦{fullShare} f)
    ∗ (∃ f, arg8.view.loc (c : Thread nD τ) ↦{fullShare} f) ∗ (∃ f, arg9.view.loc (c : Thread nD τ) ↦{fullShare} f)
    ∗ (∃ f, arg10.view.loc (c : Thread nD τ) ↦{fullShare} f))

set_option maxHeartbeats 4000000 in
/-- The first part of the body (the loads, the zero fills and the search loop) runs and hands the nine buffers back. -/
theorem sound_part1 (c : Dev nD) (E : Set ℕ) (i : grid0.Coords)
    (arg2 : Memref sig .tc .vmem S1x1 .f32) (harg2 : arg2.IsWhole)
    (arg3 : Memref sig .tc .vmem S1x8x3x1024 .f32) (harg3 : arg3.IsWhole) (arg4 : Memref sig .tc .vmem S1x8x1024x67 .f32) (harg4 : arg4.IsWhole)
    (arg5 : Memref sig .tc .vmem S1x128x3 .f32) (harg5 : arg5.IsWhole) (arg6 : Memref sig .tc .vmem S1x128x1 .f32) (harg6 : arg6.IsWhole)
    (arg7 : Memref sig .tc .vmem S1x128x1 .f32) (harg7 : arg7.IsWhole)
    (arg8 : Memref sig .tc .vmem S128x32x67 .f32) (harg8 : arg8.IsWhole) (arg9 : Memref sig .tc .vmem S128x32 .f32) (harg9 : arg9.IsWhole)
    (arg10 : Memref sig .tc .vmem S128x32 .i32) (harg10 : arg10.IsWhole) (K : _ → sProp 𝕄) :
    iprop(nine (F := F) c arg2 arg3 arg4 arg5 arg6 arg7 arg8 arg9 arg10 ∗ (∀ r, nine (F := F) c arg2 arg3 arg4 arg5 arg6 arg7 arg8 arg9 arg10 -∗ K r))
    ⊢ wp frame (wpE (defs₀ (F := F)) 𝒱₀ (c : Thread nD τ) none) E (k0_part1 i arg2 harg2 arg3 harg3 arg4 harg4 arg5 harg5 arg6 harg6 arg7 harg7 arg8 harg8 arg9 harg9 arg10 harg10) K := by
  rw [k0_part1_eq_skeleton]; unfold k0_part1_skel nine
  iintro ⟨⟨⟨%f2, H2⟩, ⟨%f3, H3⟩, ⟨%f4, H4⟩, ⟨%f5, H5⟩, ⟨%f6, H6⟩, ⟨%f7, H7⟩, ⟨%f8, H8⟩, ⟨%f9, H9⟩, ⟨%f10, H10⟩⟩, Hk⟩
  sl_exec
  iapply (wp_loop c E i arg3 harg3 arg4 harg4 _ _ _ _ arg8 harg8 arg10 harg10 _)
  rw [spec_apply]; unfold held
  isplitl [H3 H4 H8 H10]
  · isplitl [H3]; · iexists _; iexact H3
    isplitl [H4]; · iexists _; iexact H4
    isplitl [H8]; · iexists _; iexact H8
    iexists _; iexact H10
  iintro %r ⟨H3, H4, H8, H10⟩
  sl_exec
  sl_step
  iapply Hk
  isplitl [H2]; · iexists _; iexact H2
  isplitl [H3]; · iexact H3
  isplitl [H4]; · iexact H4
  isplitl [H5]; · iexists _; iexact H5
  isplitl [H6]; · iexists _; iexact H6
  isplitl [H7]; · iexists _; iexact H7
  isplitl [H8]; · iexact H8
  isplitl [H9]; · iexists _; iexact H9
  iexact H10

set_option maxHeartbeats 4000000 in
/-- The kernel body, on nine whole staging buffers at anything, runs and hands them back. -/
theorem sound_kernel (c : Dev nD) (E : Set ℕ) (i : grid0.Coords)
    (arg2 : Memref sig .tc .vmem S1x1 .f32) (harg2 : arg2.IsWhole)
    (arg3 : Memref sig .tc .vmem S1x8x3x1024 .f32) (harg3 : arg3.IsWhole) (arg4 : Memref sig .tc .vmem S1x8x1024x67 .f32) (harg4 : arg4.IsWhole)
    (arg5 : Memref sig .tc .vmem S1x128x3 .f32) (harg5 : arg5.IsWhole) (arg6 : Memref sig .tc .vmem S1x128x1 .f32) (harg6 : arg6.IsWhole)
    (arg7 : Memref sig .tc .vmem S1x128x1 .f32) (harg7 : arg7.IsWhole)
    (arg8 : Memref sig .tc .vmem S128x32x67 .f32) (harg8 : arg8.IsWhole) (arg9 : Memref sig .tc .vmem S128x32 .f32) (harg9 : arg9.IsWhole)
    (arg10 : Memref sig .tc .vmem S128x32 .i32) (harg10 : arg10.IsWhole) (K : PUnit → sProp 𝕄) :
    iprop(nine (F := F) c arg2 arg3 arg4 arg5 arg6 arg7 arg8 arg9 arg10 ∗ (nine (F := F) c arg2 arg3 arg4 arg5 arg6 arg7 arg8 arg9 arg10 -∗ K ⟨⟩))
    ⊢ wp frame (wpE (defs₀ (F := F)) 𝒱₀ (c : Thread nD τ) none) E (cc0__qg_kernel i arg2 harg2 arg3 harg3 arg4 harg4 arg5 harg5 arg6 harg6 arg7 harg7 arg8 harg8 arg9 harg9 arg10 harg10) K := by
  simp only [cc0__qg_kernel_eq_skeleton]; unfold cc0__qg_kernel_skel
  rw [wp_bind, k0_part39_eq_skeleton]; unfold k0_part39_skel
  rw [wp_bind]
  iintro ⟨H, Hk⟩
  iapply (sound_part1 (F := F) c E i arg2 harg2 arg3 harg3 arg4 harg4 arg5 harg5 arg6 harg6 arg7 harg7 arg8 harg8 arg9 harg9 arg10 harg10 _)
  isplitl [H]; · iexact H
  unfold nine
  iintro %r ⟨⟨%f2, H2⟩, ⟨%f3, H3⟩, ⟨%f4, H4⟩, ⟨%f5, H5⟩, ⟨%f6, H6⟩, ⟨%f7, H7⟩, ⟨%f8, H8⟩, ⟨%f9, H9⟩, ⟨%f10, H10⟩⟩
  obtain ⟨v1, v5, v7, v9, v11, v26⟩ := r
  sl_exec_parts
  sl_step
  iapply Hk
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  iexists _; iexact H10

/-- The nine staging buffers of the body, as the pipeline states them: each owned at some contents read through its view. -/
def nineO (c : Dev nD) (arg2 : Memref sig .tc .vmem S1x1 .f32)
    (arg3 : Memref sig .tc .vmem S1x8x3x1024 .f32) (arg4 : Memref sig .tc .vmem S1x8x1024x67 .f32)
    (arg5 : Memref sig .tc .vmem S1x128x3 .f32) (arg6 : Memref sig .tc .vmem S1x128x1 .f32) (arg7 : Memref sig .tc .vmem S1x128x1 .f32)
    (arg8 : Memref sig .tc .vmem S128x32x67 .f32) (arg9 : Memref sig .tc .vmem S128x32 .f32) (arg10 : Memref sig .tc .vmem S128x32 .i32) : sProp 𝕄 :=
  iprop((∃ X, owns (c : Thread nD τ) arg2 fullShare X) ∗ (∃ X, owns (c : Thread nD τ) arg3 fullShare X)
    ∗ (∃ X, owns (c : Thread nD τ) arg4 fullShare X) ∗ (∃ X, owns (c : Thread nD τ) arg5 fullShare X)
    ∗ (∃ X, owns (c : Thread nD τ) arg6 fullShare X) ∗ (∃ X, owns (c : Thread nD τ) arg7 fullShare X)
    ∗ (∃ X, owns (c : Thread nD τ) arg8 fullShare X) ∗ (∃ X, owns (c : Thread nD τ) arg9 fullShare X)
    ∗ (∃ X, owns (c : Thread nD τ) arg10 fullShare X))

/-- `sound_kernel` over the buffers as the pipeline states them. -/
theorem sound_kernelO (c : Dev nD) (E : Set ℕ) (i : grid0.Coords)
    (arg2 : Memref sig .tc .vmem S1x1 .f32) (harg2 : arg2.IsWhole)
    (arg3 : Memref sig .tc .vmem S1x8x3x1024 .f32) (harg3 : arg3.IsWhole) (arg4 : Memref sig .tc .vmem S1x8x1024x67 .f32) (harg4 : arg4.IsWhole)
    (arg5 : Memref sig .tc .vmem S1x128x3 .f32) (harg5 : arg5.IsWhole) (arg6 : Memref sig .tc .vmem S1x128x1 .f32) (harg6 : arg6.IsWhole)
    (arg7 : Memref sig .tc .vmem S1x128x1 .f32) (harg7 : arg7.IsWhole)
    (arg8 : Memref sig .tc .vmem S128x32x67 .f32) (harg8 : arg8.IsWhole) (arg9 : Memref sig .tc .vmem S128x32 .f32) (harg9 : arg9.IsWhole)
    (arg10 : Memref sig .tc .vmem S128x32 .i32) (harg10 : arg10.IsWhole) (P P' : sProp 𝕄) :
    iprop(P ∗ P' ∗ nineO (F := F) c arg2 arg3 arg4 arg5 arg6 arg7 arg8 arg9 arg10)
    ⊢ wp frame (wpE (defs₀ (F := F)) 𝒱₀ (c : Thread nD τ) none) E (cc0__qg_kernel i arg2 harg2 arg3 harg3 arg4 harg4 arg5 harg5 arg6 harg6 arg7 harg7 arg8 harg8 arg9 harg9 arg10 harg10)
      (fun _ => iprop(P ∗ P' ∗ nineO (F := F) c arg2 arg3 arg4 arg5 arg6 arg7 arg8 arg9 arg10)) := by
  unfold nineO owns
  rw [harg2.set_eq_univ, harg3.set_eq_univ, harg4.set_eq_univ, harg5.set_eq_univ, harg6.set_eq_univ, harg7.set_eq_univ, harg8.set_eq_univ, harg9.set_eq_univ, harg10.set_eq_univ]
  iintro ⟨HP, HP', ⟨%X2, %f2, -, H2⟩, ⟨%X3, %f3, -, H3⟩, ⟨%X4, %f4, -, H4⟩, ⟨%X5, %f5, -, H5⟩, ⟨%X6, %f6, -, H6⟩, ⟨%X7, %f7, -, H7⟩, ⟨%X8, %f8, -, H8⟩, ⟨%X9, %f9, -, H9⟩, ⟨%X10, %f10, -, H10⟩⟩
  iapply (sound_kernel (F := F) c E i arg2 harg2 arg3 harg3 arg4 harg4 arg5 harg5 arg6 harg6 arg7 harg7 arg8 harg8 arg9 harg9 arg10 harg10 _)
  unfold nine
  isplitl [H2 H3 H4 H5 H6 H7 H8 H9 H10]
  · isplitl [H2]; · iexists f2; iexact H2
    isplitl [H3]; · iexists f3; iexact H3
    isplitl [H4]; · iexists f4; iexact H4
    isplitl [H5]; · iexists f5; iexact H5
    isplitl [H6]; · iexists f6; iexact H6
    isplitl [H7]; · iexists f7; iexact H7
    isplitl [H8]; · iexists f8; iexact H8
    isplitl [H9]; · iexists f9; iexact H9
    iexists f10; iexact H10
  iintro ⟨⟨%g2, H2⟩, ⟨%g3, H3⟩, ⟨%g4, H4⟩, ⟨%g5, H5⟩, ⟨%g6, H6⟩, ⟨%g7, H7⟩, ⟨%g8, H8⟩, ⟨%g9, H9⟩, ⟨%g10, H10⟩⟩
  isplitl [HP]; · iexact HP
  isplitl [HP']; · iexact HP'
  isplitl [H2]
  · iexists _, g2; isplitr; · ipureintro; rfl
    iexact H2
  isplitl [H3]
  · iexists _, g3; isplitr; · ipureintro; rfl
    iexact H3
  isplitl [H4]
  · iexists _, g4; isplitr; · ipureintro; rfl
    iexact H4
  isplitl [H5]
  · iexists _, g5; isplitr; · ipureintro; rfl
    iexact H5
  isplitl [H6]
  · iexists _, g6; isplitr; · ipureintro; rfl
    iexact H6
  isplitl [H7]
  · iexists _, g7; isplitr; · ipureintro; rfl
    iexact H7
  isplitl [H8]
  · iexists _, g8; isplitr; · ipureintro; rfl
    iexact H8
  isplitl [H9]
  · iexists _, g9; isplitr; · ipureintro; rfl
    iexact H9
  iexists _, g10; isplitr; · ipureintro; rfl
  iexact H10

end Cert.Proof.KernelIdeal

end
-- ==== Proof.KernelIdeal.Frame.lean ====
/-
  The frame claim of `KernelIdeal`: @main runs from any memory, ends with its seven arguments as they were and with every
  semaphore counter at zero. The region's arrays are none of the arguments, so nothing need be said of what they hold.
-/
module

public import proofs.«01_k».proof.Proof.KernelIdeal.Body
public import proofs.«01_k».proof.Proof.Gen.KernelIdeal.Points
public import proofs.«01_k».proof.Proof.Gen.KernelIdeal.Skeleton
public import Idealize.ShloMosaic.Lib.Pipeline.FrameBody
public import Idealize.ShloMosaic.Lib.Pipeline.FrameSuffix
public import Idealize.ShloMosaic.Lib.Tactic
public import Idealize.ShloMosaic.Lib.WordCmp

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What core `c`'s buffers hold when the region is entered: the launch memory after the host operations before it. -/
abbrev V0 (c : Dev nD) : Valuation τ sig (Elt F) := StableHlo.after (List.flatten [hostOps0]) (fun b => m (c, b))

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main is the host operations before the region, the region, and the host operations after it. -/
theorem hmain : Pipeline.HMainK (Ix := Unit) (Name := ℕ) (U := UR sig nD τ) (Lvl := ℕ) (cfgs (F := F)) 0 defs₀ 𝒱₀ m (main (F := F))
      (fun c b => V0 m c (Proc.devRef .tc b)) (fun _ => Pipeline.chain ([hostOps1].map StableHlo.seq)) :=
  Pipeline.hmain_around (cfgs (F := F)) 0 defs₀ 𝒱₀ m main [hostOps0] [hostOps1] (by simp only [List.Forall]; exact hostOps0_sub)
    (by simp only [List.Forall]; exact hostOps0_fresh) main_chain

/-- The operations after the region touch unscoped TensorCore buffers only, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 (launch0 (F := F)).win.arr_unscoped]
  intro ops hops op hop
  simp only [List.mem_cons, List.mem_nil_iff, or_false] at hops
  rcases hops with rfl
  exact Pipeline.sub_ucRefs op ((List.forall_iff_forall_mem.mp hostOps1_sub) op hop)
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- and write the transposed result only. -/
theorem sfx_writes : ∀ ops ∈ ([hostOps1] : List (List (HloOp τ sig (Elt F)))), ∀ op ∈ ops, op.writes = {Proc.devRef .tc main_v18} := by
  intro ops hops op hop
  simp only [List.mem_cons, List.mem_nil_iff, or_false] at hops
  rcases hops with rfl
  simp only [hostOps1, List.mem_cons, List.mem_nil_iff, or_false] at hop
  rcases hop with rfl
  rfl
theorem sfx_keeps : ∀ ops ∈ ([hostOps1] : List (List (HloOp τ sig (Elt F)))), ∀ op ∈ ops,
    ∀ w, Proc.devRef .tc (Pipeline.arrRef spec0 w) ∉ op.writes := by
  intro ops hops op hop w
  rw [sfx_writes ops hops op hop, Finset.mem_singleton]
  revert w; intro w; fin_cases w <;> exact StableHlo.devRef_ne_of_ne (by decide)

/-- Nothing before the region writes an argument. -/
theorem V_arg (c : Dev nD) (b : Ref sig .tc) (hb : b ∈ ([main_arg0, main_arg1, main_arg2, main_arg3, main_arg4, main_arg5, main_arg6] : List (Ref sig .tc))) :
    V0 m c (Proc.devRef .tc b) = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals refine StableHlo.devRef_ne_of_ne ?_; revert b; decide))

/-- The proof data: the arrays as the region finds them; what the body leaves in the staging buffers is not named. -/
def dats (_ : Fin 1) (c : Dev nD) : Dat τ (Elt F) Unit ℕ (UR sig nD τ) ℕ (cfg0 (F := F)) c where
  A w := V0 m c (Proc.devRef .tc (Pipeline.arrRef spec0 w))
  after := Dat.unnamed
  Φ _ := Pipeline.ΦA spec0 c
  q _ := fullShare
  owed _ := 0

/-- The body table's row at a point is the kernel body on that point's staging buffers. -/
theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- The nine staging buffers at point `t`, at anything, with what the pipeline carries along. -/
def around (c : Dev nD) (t : Fin (cfg0 (F := F)).N) : sProp 𝕄 :=
  iprop((dats (F := F) m 0 c).Φ t.castSucc ∗ (dats (F := F) m 0 c).owesAt () t.castSucc ∗ nineO (F := F) c (st0_0 t) (st0_1 t) (st0_2 t) (st0_3 t) (st0_4 t) (st0_5 t) (st0_6 t) (st0_7 t) (st0_8 t))

set_option maxRecDepth 8000 in
/-- The body at a point, with every staging buffer at anything before and after. -/
theorem sound_body (c : Dev nD) (t : Fin (cfg0 (F := F)).N) :
    around (F := F) m c t ⊢ wp frame (wpE (defs₀ (F := F)) 𝒱₀ (c : Thread nD τ) none) Set.univ (bodyAt0 t) (fun _ => around (F := F) m c t) :=
  sound_kernelO (F := F) c Set.univ (grid0.coords t) (st0_0 t) (hstage0_0 (((cfg0 (F := F)).slots t 0).cast nbuf0_0)) (st0_1 t) (hstage0_1 (((cfg0 (F := F)).slots t 1).cast nbuf0_1)) (st0_2 t) (hstage0_2 (((cfg0 (F := F)).slots t 2).cast nbuf0_2)) (st0_3 t) (hstage0_3 (((cfg0 (F := F)).slots t 3).cast nbuf0_3)) (st0_4 t) (hstage0_4 (((cfg0 (F := F)).slots t 4).cast nbuf0_4)) (st0_5 t) (hstage0_5 (((cfg0 (F := F)).slots t 5).cast nbuf0_5)) (st0_6 t) (hstage0_6 (((cfg0 (F := F)).slots t 6).cast nbuf0_6)) (st0_7 t) (hstage0_7 (((cfg0 (F := F)).slots t 7).cast nbuf0_7)) (st0_8 t) (hstage0_8 (((cfg0 (F := F)).slots t 8).cast nbuf0_8)) _ _

/-- The same as the pipeline asks it. -/
theorem body_obligation (c : Dev nD) :
    Pipeline.BodyObligationLoose (dats (F := F) m 0 c) (defs₀ (F := F)) 𝒱₀ () Set.univ (fun _ => true) := fun t => by
  rw [bigSep_W0, defs₀_row]
  exact triple_restated (sound_body m c t) rfl .rfl fun _ => .rfl

set_option backward.isDefEq.respectTransparency.types false in
set_option maxHeartbeats 4000000 in
/-- From any memory with zero counters, @main runs, its arguments end as they were and every counter ends at zero. -/
theorem run :
    θ_run defs (onTc (τ := τ) (main (F := F))) ⟨m, fun _ => 0, ρ⟩ (fun r => (∀ c : Dev nD,
      ∀ b ∈ ([main_arg0, main_arg1, main_arg2, main_arg3, main_arg4, main_arg5, main_arg6] : List (Ref sig .tc)),
        r.2.mem ((c : Thread nD τ).loc b) = m ((c : Thread nD τ).loc b)) ∧ r.2.sem = fun _ => 0) :=
  Pipeline.θ_run_frame_around_T_forget (cfgs (F := F)) (dats m) (0 : Fin 1) launch0 defs₀ 𝒱₀ (fun _ => true) {main_v18} m ρ main
    (hbody := fun c => body_obligation m c) (hshare := fun c w => by simp only [Dat.share, dats]; split <;> rfl)
    (howed := fun _ _ => rfl) (V₀ := V0 m) (opss := [hostOps1])
    (hsub := sfx_sub) (hfresh := sfx_fresh) (hkeep := sfx_keeps)
    (hT := fun ops hops op hop b hb => by
      rw [sfx_writes ops hops op hop, Finset.mem_singleton] at hb
      rw [Finset.mem_singleton]
      by_contra hne
      exact StableHlo.devRef_ne_of_ne hne hb)
    (hmain := hmain m) (hA := fun _ _ => rfl) (hΦ := fun _ _ => rfl)
    (Q' := _) (hQ' := fun r h => ⟨fun c b hb => ((h.1 c).2 b (by revert b; exact (by decide : ∀ b ∈ ([main_arg0, main_arg1, main_arg2, main_arg3, main_arg4, main_arg5, main_arg6] : List (Ref sig .tc)), b ∈ Pipeline.restRefs sig spec0 \ {main_v18}))).trans (V_arg m c b hb), h.2⟩)

end Cert.Proof.KernelIdeal

end
-- ==== Proof.PI.Step.lean ====
/-
  One trip of the search loop as functions: from what the two accumulators hold, the carried count and the chunk, what the
  accumulators hold after the trip. The terms are the payloads of the loop's stores, stated once for any slot.
-/
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.FrameBody
public import Idealize.ShloMosaic.Lib.Pipeline.FrameSuffix
public import Idealize.ShloMosaic.Lib.Tactic
public import Idealize.ShloMosaic.Lib.WordCmp
public import Idealize.ShloMosaic.Lib.ValueIdx
public import Idealize.ShloMosaic.Lib.Pointwise

@[expose] public section

noncomputable section

namespace Cert.Proof.PI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- Chunk `w` of the points' coordinates, read off the whole block. -/
def chunk3 (R3 : Vec Ideal S1x8x3x1024 .f32) (w : BitVec 32) (h : k0_chk1 w) : Vec Ideal S1x1x3x1024 .f32 :=
  fun x => R3 ((Rect.unit (s := S1x8x3x1024) (k0_off1 w) S1x1x3x1024.size (k0_off1_inb w h)).emb x)

/-- Chunk `w` of the points' coordinates and features, read off the whole block. -/
def chunk4 (R4 : Vec Ideal S1x8x1024x67 .f32) (w : BitVec 32) (h : k0_chk1 w) : Vec Ideal S1x1x1024x67 .f32 :=
  fun x => R4 ((Rect.unit (s := S1x8x1024x67) (k0_off2 w) S1x1x1024x67.size (k0_off2_inb w h)).emb x)

/-- The points of the chunk whose rank is `s`: in the ball, with `s` points of the ball before them. -/
def hitAt (m : IVec S128x1024 1) (e : IVec S128x1024 32) (s : BitVec 32) : IVec S128x1024 1 :=
  andi m (cmpi .eq e (broadcast S128x1024 s))

/-- The product of the indicator of `hit` with the chunk's rows: for each query, the row of its hit. -/
def gathered (hit : IVec S128x1024 1) (fxc : FVec Ideal S1024x67 .f32) : FVec Ideal S128x67 .f32 :=
  matmul dot_S128x1024_S1024x67_S128x67_1_0_0_1_n_n (some .fp32)
    (select hit (broadcast S128x1024 (Scalar.ofBits (F := Ideal) .f32 0x3F800000#32)) (broadcast S128x1024 (Scalar.ofBits (F := Ideal) .f32 0x00000000#32)))
    fxc (constant S128x67 .f32 0x00000000#32)

/-- The sum of the point numbers over `hit`: for each query, the number of its hit. -/
def idSum (hit : IVec S128x1024 1) (jg : IVec S1x1024 32) : IVec S128 32 :=
  multiReductionI .add [1] S128 (select hit (broadcastTo S128x1024 (shapeCast S1x1024 jg shapeCasts_S1x1024_S1x1024) broadcasts_S1x1024_S128x1024)
    (broadcast S128x1024 0#32)) 0#32 reduces_S128x1024_S128 rfl

/-- What a trip stores into a slot of the features' accumulator over `old`. -/
def nfPay (hit : IVec S128x1024 1) (fxc : FVec Ideal S1024x67 .f32) (old : Vec Ideal S128x1x67 .f32) : FVec Ideal S128x1x67 .f32 :=
  shapeCast S128x1x67 (addf (shapeCast S128x67 old shapeCasts_S128x1x67_S128x67) (gathered hit fxc)) shapeCasts_S128x67_S128x1x67

/-- What a trip stores into a slot of the numbers' accumulator over `old`. -/
def ixPay (hit : IVec S128x1024 1) (jg : IVec S1x1024 32) (old : IVec S128x1 32) : IVec S128x1 32 :=
  shapeCast S128x1 (addi (shapeCast S128 old shapeCasts_S128x1_S128) (idSum hit jg)) shapeCasts_S128_S128x1

/-- The queries of a block and their radii, as the loop takes them, and the two point blocks. -/
structure Blk where
  /-- the queries -/
  q : FVec Ideal S128x3 .f32
  /-- their squared norms -/
  qq : FVec Ideal S128x1 .f32
  /-- the squared radii -/
  rr : FVec Ideal S128x1 .f32
  /-- the numbers 0 … 1023 -/
  io : IVec S1x1024 32
  /-- the coordinates by chunk -/
  R3 : Vec Ideal S1x8x3x1024 .f32
  /-- the rows by chunk -/
  R4 : Vec Ideal S1x8x1024x67 .f32

/-- What the loop carries and accumulates: the features' accumulator, the numbers' accumulator, the counts. -/
structure St where
  /-- the features' accumulator -/
  nf : Vec Ideal S128x32x67 .f32
  /-- the numbers' accumulator -/
  ix : IVec S128x32 32
  /-- the counts -/
  cnt : IVec S128x1 32

variable (B : Blk)

/-- The points of chunk `w` in the ball, -/
def Blk.mask (w : BitVec 32) (h : k0_chk1 w) : IVec S128x1024 1 := k0_pay318 B.q B.qq B.rr (chunk3 B.R3 w h)
/-- how many of the chunk's points up to each are, -/
def Blk.incl (w : BitVec 32) (h : k0_chk1 w) : IVec S128x1024 32 :=
  k0_pay322 (k0_pay320 B.q B.qq B.rr (chunk3 B.R3 w h)) (k0_pay321 B.q B.qq B.rr (chunk3 B.R3 w h))
/-- how many of all points before each are, given the count before the chunk, -/
def Blk.excl (w : BitVec 32) (h : k0_chk1 w) (cnt : IVec S128x1 32) : IVec S128x1024 32 :=
  k0_pay323 cnt (k0_pay319 B.q B.qq B.rr (chunk3 B.R3 w h)) (k0_pay320 B.q B.qq B.rr (chunk3 B.R3 w h)) (k0_pay321 B.q B.qq B.rr (chunk3 B.R3 w h))
/-- the points' numbers, -/
def Blk.jg (w : BitVec 32) : IVec S1x1024 32 := k0_pay324 B.io (Scalar.muli w 1024#32)
/-- and their rows. -/
def Blk.fx (w : BitVec 32) (h : k0_chk1 w) : FVec Ideal S1024x67 .f32 := k0_pay317 (chunk4 B.R4 w h)

/-- The features' accumulator after a trip, -/
def Blk.nfNew (w : BitVec 32) (h : k0_chk1 w) (s : St) : Vec Ideal S128x32x67 .f32 :=
  fun y => s.nf y + gathered (hitAt (B.mask w h) (B.excl w h s.cnt) (BitVec.ofNat 32 (y 1).val)) (B.fx w h) (ix2 (y 0) (y 2))
/-- the numbers' accumulator, -/
def Blk.ixNew (w : BitVec 32) (h : k0_chk1 w) (s : St) : IVec S128x32 32 :=
  fun y => s.ix y + idSum (hitAt (B.mask w h) (B.excl w h s.cnt) (BitVec.ofNat 32 (y 1).val)) (B.jg w) (ix1 (y 0))
/-- and all three. -/
def Blk.step (w : BitVec 32) (h : k0_chk1 w) (s : St) : St :=
  ⟨B.nfNew w h s, B.ixNew w h s, k0_pay3 s.cnt (B.incl w h)⟩

/-- A slot's store of the features, element by element. -/
theorem nfPay_apply (hit : IVec S128x1024 1) (fxc : FVec Ideal S1024x67 .f32) (old : Vec Ideal S128x1x67 .f32) (x : S128x1x67.Idx) :
    nfPay hit fxc old x = old x + gathered hit fxc (ix2 (x 0) (x 2)) := by
  unfold nfPay
  pointwise
/-- A slot's store of the numbers, element by element. -/
theorem ixPay_apply (hit : IVec S128x1024 1) (jg : IVec S1x1024 32) (old : IVec S128x1 32) (x : S128x1.Idx) :
    ixPay hit jg old x = old x + idSum hit jg (ix1 (x 0)) := by
  unfold ixPay
  pointwise
  rfl

/-- The piece a trip stores into slot `n` of the features' accumulator agrees with the accumulator after the trip. -/
theorem nf_piece (w : BitVec 32) (h : k0_chk1 w) (s : St) (m : IVec S128x1024 1) (e : IVec S128x1024 32) (fx : FVec Ideal S1024x67 .f32)
    (hm : m = B.mask w h) (he : e = B.excl w h s.cnt) (hf : fx = B.fx w h) (n : ℕ) (hin : ∀ a, (![0, n, 0] : Fin 3 → ℕ) a + S128x1x67.size a ≤ S128x32x67.size a)
    (v : Vec Ideal S128x1x67 .f32)
    (hv : v = nfPay (hitAt m e (BitVec.ofNat 32 n)) fx (fun x => s.nf ((Rect.unit (s := S128x32x67) ![0, n, 0] S128x1x67.size hin).emb x)))
    (x : S128x1x67.Idx) : v x = (B.step w h s).nf ((Rect.unit (s := S128x32x67) ![0, n, 0] S128x1x67.size hin).emb x) := by
  subst hv hm he hf
  rw [nfPay_apply]
  have e0 : ((Rect.unit (s := S128x32x67) ![0, n, 0] S128x1x67.size hin).emb x) 0 = x 0 := Fin.ext (show 0 + 1 * (x 0).val = _ by omega)
  have e1 : (((Rect.unit (s := S128x32x67) ![0, n, 0] S128x1x67.size hin).emb x) 1).val = n := by
    show n + 1 * (x 1).val = n
    have : (x 1).val < 1 := (x 1).isLt
    omega
  have e2 : ((Rect.unit (s := S128x32x67) ![0, n, 0] S128x1x67.size hin).emb x) 2 = x 2 := Fin.ext (show 0 + 1 * (x 2).val = _ by omega)
  unfold Blk.step Blk.nfNew
  dsimp only
  rw [e0, e1, e2]

/-- The piece a trip stores into slot `n` of the numbers' accumulator agrees with the accumulator after the trip. -/
theorem ix_piece (w : BitVec 32) (h : k0_chk1 w) (s : St) (m : IVec S128x1024 1) (e : IVec S128x1024 32) (jg : IVec S1x1024 32)
    (hm : m = B.mask w h) (he : e = B.excl w h s.cnt) (hj : jg = B.jg w) (n : ℕ) (hin : ∀ a, (![0, n] : Fin 2 → ℕ) a + S128x1.size a ≤ S128x32.size a)
    (v : IVec S128x1 32)
    (hv : v = ixPay (hitAt m e (BitVec.ofNat 32 n)) jg (fun x => s.ix ((Rect.unit (s := S128x32) ![0, n] S128x1.size hin).emb x)))
    (x : S128x1.Idx) : v x = (B.step w h s).ix ((Rect.unit (s := S128x32) ![0, n] S128x1.size hin).emb x) := by
  subst hv hm he hj
  rw [ixPay_apply]
  have e0 : ((Rect.unit (s := S128x32) ![0, n] S128x1.size hin).emb x) 0 = x 0 := Fin.ext (show 0 + 1 * (x 0).val = _ by omega)
  have e1 : (((Rect.unit (s := S128x32) ![0, n] S128x1.size hin).emb x) 1).val = n := by
    show n + 1 * (x 1).val = n
    have : (x 1).val < 1 := (x 1).isLt
    omega
  unfold Blk.step Blk.ixNew
  dsimp only
  rw [e0, e1]

end Cert.Proof.PI

end
-- ==== Proof.PI.Loop.lean ====
/-
  The search loop on buffers whose contents are known: each trip is one step of the functions of PI/Step.lean, and the loop
  stops where its test first fails, at the eighth chunk at the latest.
-/
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.FrameBody
public import Idealize.ShloMosaic.Lib.Pipeline.FrameSuffix
public import Idealize.ShloMosaic.Lib.Tactic
public import Idealize.ShloMosaic.Lib.WordCmp
public import proofs.«01_k».proof.Proof.PI.Step

@[expose] public section

noncomputable section

namespace Cert.Proof.PI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- The variants of the loop's label: the number of chunks left. -/
abbrev 𝒱₀ : Variants := Variants.nat

/-- The loop's test: chunks are left and some query has fewer than 32 points. -/
def test (w : BitVec 32) (cnt : IVec S128x1 32) : BitVec 1 :=
  Scalar.andi (Scalar.cmpi .slt w 8#32) (Scalar.cmpi .slt (extractAt ![0, 0, 0] (k0_pay2 cnt) inpos_S1x1x1_p0_0_0) 32#32)

/-- The chunk a counter below eight names lies inside the arrays. -/
theorem chk_of_lt : ∀ j < 8, k0_chk1 (BitVec.ofNat 32 j) := by decide

/-- The counter after one more trip. -/
theorem addi_succ : ∀ j < 8, Scalar.addi (BitVec.ofNat 32 j) 1#32 = BitVec.ofNat 32 (j + 1) := by decide

/-- A counter at eight stops the loop, whatever the other half of the test says. -/
theorem test_done (b : BitVec 1) : ¬ Scalar.andi (Scalar.cmpi .slt (BitVec.ofNat 32 8) 8#32) b = 1#1 := by
  revert b; decide

/-- The state after `j` trips from `s₀` (after the eighth chunk nothing changes). -/
def Blk.st (B : Blk) (s₀ : St) : ℕ → St
  | 0 => s₀
  | j + 1 => if hj : j < 8 then B.step (BitVec.ofNat 32 j) (chk_of_lt j hj) (B.st s₀ j) else B.st s₀ j

theorem Blk.st_succ (B : Blk) (s₀ : St) (j : ℕ) (hj : j < 8) :
    B.st s₀ (j + 1) = B.step (BitVec.ofNat 32 j) (chk_of_lt j hj) (B.st s₀ j) := by
  rw [Blk.st, dif_pos hj]

/-- What is left of the loop from the state after `j` trips: the trips it makes. -/
def Blk.stop (B : Blk) (s₀ : St) (k : ℕ) : ℕ → ℕ := match k with
  | 0 => fun j => j
  | k + 1 => fun j => if test (BitVec.ofNat 32 j) (B.st s₀ j).cnt = 1#1 then B.stop s₀ k (j + 1) else j

/-- The four buffers the loop touches: the two point blocks as they are, the accumulators at state `s`. -/
def held (c : Dev nD) (arg3 : Memref sig .tc .vmem S1x8x3x1024 .f32) (arg4 : Memref sig .tc .vmem S1x8x1024x67 .f32)
    (arg8 : Memref sig .tc .vmem S128x32x67 .f32) (arg10 : Memref sig .tc .vmem S128x32 .i32)
    (f3 : Buf (Elt Ideal) (arg3.view.loc (c : Thread nD τ))) (f4 : Buf (Elt Ideal) (arg4.view.loc (c : Thread nD τ))) (s : St) : sProp 𝕄 :=
  iprop((arg3.view.loc (c : Thread nD τ) ↦{fullShare} f3) ∗ (arg4.view.loc (c : Thread nD τ) ↦{fullShare} f4)
    ∗ (∃ f, ⌜arg8.view.read (Elt Ideal) f = s.nf⌝ ∗ (arg8.view.loc (c : Thread nD τ) ↦{fullShare} f))
    ∗ (∃ f, ⌜arg10.view.read (Elt Ideal) f = s.ix⌝ ∗ (arg10.view.loc (c : Thread nD τ) ↦{fullShare} f)))

/-- The loop takes the buffers at one state and hands them back at another, returning the counter and the counts. -/
def spec (c : Dev nD) (arg3 : Memref sig .tc .vmem S1x8x3x1024 .f32) (arg4 : Memref sig .tc .vmem S1x8x1024x67 .f32)
    (arg8 : Memref sig .tc .vmem S128x32x67 .f32) (arg10 : Memref sig .tc .vmem S128x32 .i32)
    (f3 : Buf (Elt Ideal) (arg3.view.loc (c : Thread nD τ))) (f4 : Buf (Elt Ideal) (arg4.view.loc (c : Thread nD τ)))
    (s s' : St) (w' : BitVec 32) :
    sWPT 𝕄 (BitVec 32 × IVec S128x1 32) := do
  sWPT.consume (held c arg3 arg4 arg8 arg10 f3 f4 s)
  sWPT.produce (held c arg3 arg4 arg8 arg10 f3 f4 s')
  pure (w', s'.cnt)

theorem spec_apply (c : Dev nD) (arg3 : Memref sig .tc .vmem S1x8x3x1024 .f32) (arg4 : Memref sig .tc .vmem S1x8x1024x67 .f32)
    (arg8 : Memref sig .tc .vmem S128x32x67 .f32) (arg10 : Memref sig .tc .vmem S128x32 .i32)
    (f3 : Buf (Elt Ideal) (arg3.view.loc (c : Thread nD τ))) (f4 : Buf (Elt Ideal) (arg4.view.loc (c : Thread nD τ)))
    (s s' : St) (w' : BitVec 32) (K : BitVec 32 × IVec S128x1 32 → sProp 𝕄) :
    spec c arg3 arg4 arg8 arg10 f3 f4 s s' w' K
      = iprop(held c arg3 arg4 arg8 arg10 f3 f4 s ∗ (held c arg3 arg4 arg8 arg10 f3 f4 s' -∗ K (w', s'.cnt))) := rfl

set_option maxHeartbeats 4000000 in
/-- One trip: where the test holds, the label's body leaves the buffers one step on and calls itself with the next counter. -/
theorem trip (c : Dev nD) (E : Set ℕ) (i : grid0.Coords)
    (arg3 : Memref sig .tc .vmem S1x8x3x1024 .f32) (harg3 : arg3.IsWhole) (arg4 : Memref sig .tc .vmem S1x8x1024x67 .f32) (harg4 : arg4.IsWhole)
    (v3 : FVec Ideal S128x3 .f32) (v19 : FVec Ideal S128x1 .f32) (v14 : FVec Ideal S128x1 .f32) (v24 : IVec S1x1024 32)
    (arg8 : Memref sig .tc .vmem S128x32x67 .f32) (harg8 : arg8.IsWhole) (arg10 : Memref sig .tc .vmem S128x32 .i32) (harg10 : arg10.IsWhole)
    (f3 : Buf (Elt Ideal) (arg3.view.loc (c : Thread nD τ))) (f4 : Buf (Elt Ideal) (arg4.view.loc (c : Thread nD τ)))
    (w : BitVec 32) (h11 : k0_chk1 w) (s : St) (ht : test w s.cnt = 1#1)
    (K : BitVec 32 × IVec S128x1 32 → sProp 𝕄) (k : ℕ) (P : sProp 𝕄)
    (hcall : let s' := (Blk.mk v3 v19 v14 v24 (arg3.view.read (Elt Ideal) f3) (arg4.view.read (Elt Ideal) f4)).step w h11 s
      iprop(P ∗ held c arg3 arg4 arg8 arg10 f3 f4 s') ⊢ wp frame (wpE (defs₀ (F := Ideal)) 𝒱₀ (c : Thread nD τ) (some k)) E
          (Prog.op (TpuEff.call (1 : (Λ₀ Ideal).Label) ⟨i, arg3, harg3, arg4, harg4, v3, v19, v14, v24, arg8, harg8, arg10, harg10, Scalar.addi w 1#32, s'.cnt⟩) Prog.ret) K) :
    iprop(P ∗ held c arg3 arg4 arg8 arg10 f3 f4 s) ⊢ wp frame (wpE (defs₀ (F := Ideal)) 𝒱₀ (c : Thread nD τ) (some k)) E
          (cc0_while1 i arg3 harg3 arg4 harg4 v3 v19 v14 v24 arg8 harg8 arg10 harg10 w s.cnt) K := by
  obtain ⟨N, X, arg12⟩ := s
  unfold test at ht
  simp only [cc0_while1_eq_skeleton]; unfold cc0_while1_skel
  simp only [ht, ↓reduceIte]
  unfold held
  iintro ⟨HP, H3, H4, ⟨%f8, %e8, H8⟩, ⟨%f10, %e10, H10⟩⟩
  obtain rfl := e8
  obtain rfl := e10
  sl_exec_parts (disch := exact h11)
  iapply hcall
  generalize hB : Blk.mk v3 v19 v14 v24 (arg3.view.read (Elt Ideal) f3) (arg4.view.read (Elt Ideal) f4) = B
  generalize hs : St.mk (arg8.view.read (Elt Ideal) f8) (arg10.view.read (Elt Ideal) f10) arg12 = s
  have hm : trip.sl.r_1 c arg3 v3 v19 v14 f3 w h11 = B.mask w h11 := by subst hB; rfl
  have he : trip.sl.r_6 c arg3 v3 v19 v14 f3 w h11 arg12 = B.excl w h11 s.cnt := by subst hB hs; rfl
  have hf : trip.sl.r c arg4 f4 w h11 = B.fx w h11 := by subst hB; rfl
  have hj : trip.sl.r_7 v24 w = B.jg w := by subst hB; rfl
  isplitl [HP]; · iexact HP
  unfold held
  isplitl [H3]; · iexact H3
  isplitl [H4]; · iexact H4
  isplitl [H8]
  · iexists _
    isplitr
    rotate_left
    · iexact H8
    ipureintro
    refine funext fun y => View.read_writes_apply_of_pieces _ _ _ _ ?_ y ?_
    · repeat (refine List.forall_mem_cons.2 ⟨nf_piece B w h11 s (trip.sl.r_1 c arg3 v3 v19 v14 f3 w h11) (trip.sl.r_6 c arg3 v3 v19 v14 f3 w h11 arg12)
        (trip.sl.r c arg4 f4 w h11) hm he hf _ _ _ (by subst hs; rfl), ?_⟩)
      exact fun _ hp => absurd hp List.not_mem_nil
    · exact View.cover_of_tiled _ ![128, 1, 67] (by rfl) y
  · iexists _
    isplitr
    rotate_left
    · iexact H10
    ipureintro
    refine funext fun y => View.read_writes_apply_of_pieces _ _ _ _ ?_ y ?_
    · repeat (refine List.forall_mem_cons.2 ⟨ix_piece B w h11 s (trip.sl.r_1 c arg3 v3 v19 v14 f3 w h11) (trip.sl.r_6 c arg3 v3 v19 v14 f3 w h11 arg12)
        (trip.sl.r_7 v24 w) hm he hj _ _ _ (by subst hs; rfl), ?_⟩)
      exact fun _ hp => absurd hp List.not_mem_nil
    · exact View.cover_of_tiled _ ![128, 1] (by rfl) y

end Cert.Proof.PI

end
-- ==== Proof.PI.Spec.lean ====
/-
  The whole search loop: from the state at entry to the state at the trip where its test first fails.
-/
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.FrameBody
public import Idealize.ShloMosaic.Lib.Pipeline.FrameSuffix
public import Idealize.ShloMosaic.Lib.Tactic
public import Idealize.ShloMosaic.Lib.WordCmp
public import proofs.«01_k».proof.Proof.PI.Loop

@[expose] public section

noncomputable section

namespace Cert.Proof.PI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- The label's body, entered after `j` trips with `k` chunks left (`j + k = 8`), meets its specification: by induction on `k`. -/
theorem spec_le (c : Dev nD) (E : Set ℕ) (i : grid0.Coords)
    (arg3 : Memref sig .tc .vmem S1x8x3x1024 .f32) (harg3 : arg3.IsWhole) (arg4 : Memref sig .tc .vmem S1x8x1024x67 .f32) (harg4 : arg4.IsWhole)
    (v3 : FVec Ideal S128x3 .f32) (v19 : FVec Ideal S128x1 .f32) (v14 : FVec Ideal S128x1 .f32) (v24 : IVec S1x1024 32)
    (arg8 : Memref sig .tc .vmem S128x32x67 .f32) (harg8 : arg8.IsWhole) (arg10 : Memref sig .tc .vmem S128x32 .i32) (harg10 : arg10.IsWhole)
    (f3 : Buf (Elt Ideal) (arg3.view.loc (c : Thread nD τ))) (f4 : Buf (Elt Ideal) (arg4.view.loc (c : Thread nD τ))) (s₀ : St) (B : Blk)
    (hB : B = ⟨v3, v19, v14, v24, arg3.view.read (Elt Ideal) f3, arg4.view.read (Elt Ideal) f4⟩) :
    ∀ k j, j + k = 8 → ∀ (K : BitVec 32 × IVec S128x1 32 → sProp 𝕄),
      spec c arg3 arg4 arg8 arg10 f3 f4 (B.st s₀ j) (B.st s₀ (B.stop s₀ k j)) (BitVec.ofNat 32 (B.stop s₀ k j)) K
      ⊢ wp frame (wpE (defs₀ (F := Ideal)) 𝒱₀ (c : Thread nD τ) (some k)) E
          (defs₀ (F := Ideal) .tc 1 ⟨i, arg3, harg3, arg4, harg4, v3, v19, v14, v24, arg8, harg8, arg10, harg10, BitVec.ofNat 32 j, (B.st s₀ j).cnt⟩) K := by
  intro k
  induction k with
  | zero =>
    intro j hj K
    obtain rfl : j = 8 := by omega
    rw [spec_apply, show B.stop s₀ 0 8 = 8 from rfl]
    show _ ⊢ wp frame (wpE (defs₀ (F := Ideal)) 𝒱₀ (c : Thread nD τ) (some 0)) E
      (cc0_while1 i arg3 harg3 arg4 harg4 v3 v19 v14 v24 arg8 harg8 arg10 harg10 (BitVec.ofNat 32 8) (B.st s₀ 8).cnt) K
    simp only [cc0_while1_eq_skeleton]; unfold cc0_while1_skel
    simp only [test_done, ↓reduceIte, Prog.pure_eq_ret]
    iintro ⟨H, Hk⟩
    rw [wp_ret]; imodintro
    iapply Hk; iexact H
  | succ k ih =>
    intro j hj K
    rw [spec_apply]
    show _ ⊢ wp frame (wpE (defs₀ (F := Ideal)) 𝒱₀ (c : Thread nD τ) (some (k + 1))) E
      (cc0_while1 i arg3 harg3 arg4 harg4 v3 v19 v14 v24 arg8 harg8 arg10 harg10 (BitVec.ofNat 32 j) (B.st s₀ j).cnt) K
    by_cases ht : test (BitVec.ofNat 32 j) (B.st s₀ j).cnt = 1#1
    · have hs : B.stop s₀ (k + 1) j = B.stop s₀ k (j + 1) := if_pos ht
      rw [hs]
      refine BIBase.Entails.trans Laws.sep_comm.1 ?_
      refine trip c E i arg3 harg3 arg4 harg4 v3 v19 v14 v24 arg8 harg8 arg10 harg10 f3 f4 (BitVec.ofNat 32 j) (chk_of_lt j (by omega)) _ ht K (k + 1) _ ?_
      rw [← hB, ← Blk.st_succ B s₀ j (by omega), addi_succ j (by omega)]
      iintro ⟨Hk, H⟩
      iapply (wp_call_spec 𝒱₀ (c : Thread nD τ) (some (k + 1)) E
        (spec c arg3 arg4 arg8 arg10 f3 f4 (B.st s₀ (j + 1)) (B.st s₀ (B.stop s₀ k (j + 1))) (BitVec.ofNat 32 (B.stop s₀ k (j + 1)))) k
        (fun u hu => by cases hu; exact Nat.lt_succ_self k) (ih (j + 1) (by omega)))
      rw [spec_apply]
      isplitl [H]; · iexact H
      iintro H
      rw [wp_ret]; imodintro
      iapply Hk; iexact H
    · have hs : B.stop s₀ (k + 1) j = j := if_neg ht
      rw [hs]
      simp only [cc0_while1_eq_skeleton]; unfold cc0_while1_skel
      unfold test at ht
      simp only [ht, ↓reduceIte, Prog.pure_eq_ret]
      iintro ⟨H, Hk⟩
      rw [wp_ret]; imodintro
      iapply Hk; iexact H

/-- The call of the loop from counter zero, in a program that goes on with `q`: what its specification asks and gives. -/
theorem wp_loop (c : Dev nD) (E : Set ℕ) (i : grid0.Coords)
    (arg3 : Memref sig .tc .vmem S1x8x3x1024 .f32) (harg3 : arg3.IsWhole) (arg4 : Memref sig .tc .vmem S1x8x1024x67 .f32) (harg4 : arg4.IsWhole)
    (v3 : FVec Ideal S128x3 .f32) (v19 : FVec Ideal S128x1 .f32) (v14 : FVec Ideal S128x1 .f32) (v24 : IVec S1x1024 32)
    (arg8 : Memref sig .tc .vmem S128x32x67 .f32) (harg8 : arg8.IsWhole) (arg10 : Memref sig .tc .vmem S128x32 .i32) (harg10 : arg10.IsWhole)
    (f3 : Buf (Elt Ideal) (arg3.view.loc (c : Thread nD τ))) (f4 : Buf (Elt Ideal) (arg4.view.loc (c : Thread nD τ))) (s₀ : St) (B : Blk)
    (hB : B = ⟨v3, v19, v14, v24, arg3.view.read (Elt Ideal) f3, arg4.view.read (Elt Ideal) f4⟩)
    {α : Type} (q : BitVec 32 × IVec S128x1 32 → Prog (TpuEff nD τ sig (Elt Ideal) (Λ₀ Ideal) .tc) α) (K : α → sProp 𝕄) :
    spec c arg3 arg4 arg8 arg10 f3 f4 s₀ (B.st s₀ (B.stop s₀ 8 0)) (BitVec.ofNat 32 (B.stop s₀ 8 0))
      (fun r => wp frame (wpE (defs₀ (F := Ideal)) 𝒱₀ (c : Thread nD τ) none) E (q r) K)
    ⊢ wp frame (wpE (defs₀ (F := Ideal)) 𝒱₀ (c : Thread nD τ) none) E
        (Prog.op (TpuEff.call (1 : (Λ₀ Ideal).Label) ⟨i, arg3, harg3, arg4, harg4, v3, v19, v14, v24, arg8, harg8, arg10, harg10, 0#32, s₀.cnt⟩) q) K := by
  have hT := spec_le c E i arg3 harg3 arg4 harg4 v3 v19 v14 v24 arg8 harg8 arg10 harg10 f3 f4 s₀ B hB 8 0 rfl
  iintro H
  iapply (wp_call_spec 𝒱₀ (c : Thread nD τ) none E (spec c arg3 arg4 arg8 arg10 f3 f4 s₀ (B.st s₀ (B.stop s₀ 8 0)) (BitVec.ofNat 32 (B.stop s₀ 8 0))) 8
    (fun u hu => nomatch hu) hT)
  iexact H

end Cert.Proof.PI

end
-- ==== Proof.PI.Epi.lean ====
/-
  What the body stores into the three results after the loop, slot by slot, as functions of what the loop leaves and of the
  block's queries, radii and temperature.
-/
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.FrameBody
public import Idealize.ShloMosaic.Lib.Pipeline.FrameSuffix
public import Idealize.ShloMosaic.Lib.Tactic
public import Idealize.ShloMosaic.Lib.WordCmp
public import Idealize.ShloMosaic.Lib.ValueIdx
public import Idealize.ShloMosaic.Lib.Pointwise

@[expose] public section

noncomputable section

namespace Cert.Proof.PI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- What the epilogue works on: the temperature, the queries' coordinates, the radii, and the state the loop ends in. -/
structure Epi where
  /-- the temperature -/
  rt : Ideal .f32
  /-- the queries' first coordinates -/
  qx : FVec Ideal S128x1 .f32
  /-- their second -/
  qy : FVec Ideal S128x1 .f32
  /-- and their third -/
  qz : FVec Ideal S128x1 .f32
  /-- the radii -/
  r : FVec Ideal S128x1 .f32
  /-- the features found -/
  N : Vec Ideal S128x32x67 .f32
  /-- the numbers found -/
  X : IVec S128x32 32
  /-- how many were found -/
  cnt : IVec S128x1 32

variable (e : Epi)

theorem inb3 (n : Fin 32) : ∀ a, (![0, n.val, 0] : Fin 3 → ℕ) a + S128x1x67.size a ≤ S128x32x67.size a := fun a => by
  have := n.isLt
  fin_cases a
  · show 0 + 128 ≤ 128; omega
  · show n.val + 1 ≤ 32; omega
  · show 0 + 67 ≤ 67; omega
theorem inb2 (n : Fin 32) : ∀ a, (![0, n.val] : Fin 2 → ℕ) a + S128x1.size a ≤ S128x32.size a := fun a => by
  have := n.isLt
  fin_cases a
  · show 0 + 128 ≤ 128; omega
  · show n.val + 1 ≤ 32; omega

/-- Slot `n` of the features found, -/
def Epi.slotN (n : Fin 32) : Vec Ideal S128x1x67 .f32 := fun x => e.N ((Rect.unit (s := S128x32x67) ![0, n.val, 0] S128x1x67.size (inb3 n)).emb x)
/-- and of the numbers. -/
def Epi.slotX (n : Fin 32) : IVec S128x1 32 := fun x => e.X ((Rect.unit (s := S128x32) ![0, n.val] S128x1.size (inb2 n)).emb x)

/-- Whether nothing was found. -/
def Epi.empty : IVec S128x1 1 := cmpi .eq e.cnt (broadcast S128x1 0#32)
/-- The row of slot `n` from the counts, the row of slot 0 and what slot `n` holds: slot 0's where the slot is not filled. -/
def selOf (cnt : IVec S128x1 32) (s0 : FVec Ideal S128x67 .f32) (sn : Vec Ideal S128x1x67 .f32) (s : BitVec 32) : FVec Ideal S128x67 .f32 :=
  select (broadcastTo S128x67 (shapeCast S128x1 (cmpi .sgt (maxsi cnt (broadcast S128x1 1#32)) (broadcast S128x1 s)) shapeCasts_S128x1_S128x1) broadcasts_S128x1_S128x67)
    (shapeCast S128x67 sn shapeCasts_S128x1x67_S128x67) s0
/-- Coordinate `k` of a row relative to the query's, zero where nothing was found. -/
def relOf (emp : IVec S128x1 1) (k : ℕ) (hk : S128x67.Slices ![0, k] S128x1) (row : FVec Ideal S128x67 .f32) (q : FVec Ideal S128x1 .f32) : FVec Ideal S128x1 .f32 :=
  select emp (broadcast S128x1 (Scalar.ofBits (F := Ideal) .f32 0x00000000#32)) (subf (extractStridedSlice S128x1 ![0, k] row hk) q)
/-- What is stored into a slot of the features, from the slot's row and the three relative coordinates, -/
def nfOf (row : FVec Ideal S128x67 .f32) (gx gy gz : FVec Ideal S128x1 .f32) : FVec Ideal S128x1x67 .f32 :=
  shapeCast S128x1x67 (concatenate S128x67 1 [⟨S128x1, gx⟩, ⟨S128x1, gy⟩, ⟨S128x1, gz⟩,
    ⟨S128x64, extractStridedSlice S128x64 ![0, 3] row slices_S128x67_o0_3_S128x64⟩] concatenates_S128x1_S128x1_S128x1_S128x64_S128x67_d1)
    shapeCasts_S128x67_S128x1x67
/-- of the weights, -/
def wOf (rt : Ideal .f32) (r gx gy gz : FVec Ideal S128x1 .f32) : FVec Ideal S128x1 .f32 :=
  shapeCast S128x1 (shapeCast S128 (subf (broadcast S128x1 (Scalar.ofBits (F := Ideal) .f32 0x3F800000#32))
    (logistic (divf (subf (sqrt (addf (addf (mulf gx gx) (mulf gy gy)) (mulf gz gz))) r) (broadcast S128x1 rt)))) shapeCasts_S128x1_S128) shapeCasts_S128_S128x1
/-- and of the numbers. -/
def ixOf (cnt : IVec S128x1 32) (x0 : IVec S128 32) (xn : IVec S128x1 32) (s : BitVec 32) : IVec S128x1 32 :=
  shapeCast S128x1 (select (shapeCast S128 (cmpi .sgt (maxsi cnt (broadcast S128x1 1#32)) (broadcast S128x1 s)) shapeCasts_S128x1_S128)
    (shapeCast S128 xn shapeCasts_S128x1_S128) x0) shapeCasts_S128_S128x1

/-- The row of slot `n`. -/
def Epi.sel (n : Fin 32) : FVec Ideal S128x67 .f32 :=
  selOf e.cnt (shapeCast S128x67 (e.slotN 0) shapeCasts_S128x1x67_S128x67) (e.slotN n) (BitVec.ofNat 32 n.val)
/-- Its first coordinate relative to the query's, -/
def Epi.gx (n : Fin 32) : FVec Ideal S128x1 .f32 := relOf e.empty 0 slices_S128x67_o0_0_S128x1 (e.sel n) e.qx
/-- the second -/
def Epi.gy (n : Fin 32) : FVec Ideal S128x1 .f32 := relOf e.empty 1 slices_S128x67_o0_1_S128x1 (e.sel n) e.qy
/-- and the third. -/
def Epi.gz (n : Fin 32) : FVec Ideal S128x1 .f32 := relOf e.empty 2 slices_S128x67_o0_2_S128x1 (e.sel n) e.qz
/-- What is stored into slot `n` of the features, -/
def Epi.nfPay (n : Fin 32) : FVec Ideal S128x1x67 .f32 := nfOf (e.sel n) (e.gx n) (e.gy n) (e.gz n)
/-- of the weights, -/
def Epi.wPay (n : Fin 32) : FVec Ideal S128x1 .f32 := wOf e.rt e.r (e.gx n) (e.gy n) (e.gz n)
/-- and of the numbers. -/
def Epi.ixPay (n : Fin 32) : IVec S128x1 32 :=
  ixOf e.cnt (shapeCast S128 (e.slotX 0) shapeCasts_S128x1_S128) (e.slotX n) (BitVec.ofNat 32 n.val)

/-- The features the body leaves, -/
def Epi.nfOut : Vec Ideal S128x32x67 .f32 := fun y => e.nfPay (y 1) (ix3 (y 0) (0 : Fin 1) (y 2))
/-- the weights, -/
def Epi.wOut : Vec Ideal S128x32 .f32 := fun y => e.wPay (y 1) (ix2 (y 0) (0 : Fin 1))
/-- and the numbers. -/
def Epi.ixOut : IVec S128x32 32 := fun y => e.ixPay (y 1) (ix2 (y 0) (0 : Fin 1))

theorem emb3 (n : ℕ) (hin : ∀ a, (![0, n, 0] : Fin 3 → ℕ) a + S128x1x67.size a ≤ S128x32x67.size a) (hn : n < 32) (x : S128x1x67.Idx) :
    (Rect.unit (s := S128x32x67) ![0, n, 0] S128x1x67.size hin).emb x = ix3 (x 0) (⟨n, hn⟩ : Fin 32) (x 2) := by
  have h1 : (x 1).val < 1 := (x 1).isLt
  refine funext fun a => Fin.ext ?_
  fin_cases a
  · show 0 + 1 * (x 0).val = (x 0).val; omega
  · show n + 1 * (x 1).val = n; omega
  · show 0 + 1 * (x 2).val = (x 2).val; omega

theorem emb2 (n : ℕ) (hin : ∀ a, (![0, n] : Fin 2 → ℕ) a + S128x1.size a ≤ S128x32.size a) (hn : n < 32) (x : S128x1.Idx) :
    (Rect.unit (s := S128x32) ![0, n] S128x1.size hin).emb x = ix2 (x 0) (⟨n, hn⟩ : Fin 32) := by
  have h1 : (x 1).val < 1 := (x 1).isLt
  refine funext fun a => Fin.ext ?_
  fin_cases a
  · show 0 + 1 * (x 0).val = (x 0).val; omega
  · show n + 1 * (x 1).val = n; omega

theorem ix3_self (x : S128x1x67.Idx) : ix3 (x 0) (0 : Fin 1) (x 2) = x :=
  funext fun a => by fin_cases a <;> first | rfl | exact Subsingleton.elim (α := Fin 1) _ _
theorem ix2_self (x : S128x1.Idx) : ix2 (x 0) (0 : Fin 1) = x :=
  funext fun a => by fin_cases a <;> first | rfl | exact Subsingleton.elim (α := Fin 1) _ _

theorem Epi.slotN_apply (n : Fin 32) (x : S128x1x67.Idx) : e.slotN n x = e.N (ix3 (x 0) n (x 2)) :=
  congrArg e.N (emb3 n.val (inb3 n) n.isLt x)
theorem Epi.slotX_apply (n : Fin 32) (x : S128x1.Idx) : e.slotX n x = e.X (ix2 (x 0) n) :=
  congrArg e.X (emb2 n.val (inb2 n) n.isLt x)

section Pieces

variable (n : ℕ) (hn : n < 32) (cnt : IVec S128x1 32) (hc : cnt = e.cnt)
  (emp : IVec S128x1 1) (s0 : FVec Ideal S128x67 .f32) (sn : Vec Ideal S128x1x67 .f32)
  (hemp : emp = e.empty) (hs0 : s0 = shapeCast S128x67 (e.slotN 0) shapeCasts_S128x1x67_S128x67) (hsn : sn = e.slotN ⟨n, hn⟩)

include hc hemp hs0 hsn

/-- The piece stored into slot `n` of the features agrees with what the body leaves, -/
theorem Epi.nf_piece (v : Vec Ideal S128x1x67 .f32)
    (hv : v = nfOf (selOf cnt s0 sn (BitVec.ofNat 32 n)) (relOf emp 0 slices_S128x67_o0_0_S128x1 (selOf cnt s0 sn (BitVec.ofNat 32 n)) e.qx)
      (relOf emp 1 slices_S128x67_o0_1_S128x1 (selOf cnt s0 sn (BitVec.ofNat 32 n)) e.qy)
      (relOf emp 2 slices_S128x67_o0_2_S128x1 (selOf cnt s0 sn (BitVec.ofNat 32 n)) e.qz)) (x : S128x1x67.Idx) :
    v x = e.nfOut ((Rect.unit (s := S128x32x67) ![0, n, 0] S128x1x67.size (inb3 ⟨n, hn⟩)).emb x) := by
  rw [emb3 n (inb3 ⟨n, hn⟩) hn, hv, hc, hemp, hs0, hsn]
  exact congrArg (e.nfPay ⟨n, hn⟩) (ix3_self x).symm
/-- into slot `n` of the weights, -/
theorem Epi.w_piece (v : Vec Ideal S128x1 .f32)
    (hv : v = wOf e.rt e.r (relOf emp 0 slices_S128x67_o0_0_S128x1 (selOf cnt s0 sn (BitVec.ofNat 32 n)) e.qx)
      (relOf emp 1 slices_S128x67_o0_1_S128x1 (selOf cnt s0 sn (BitVec.ofNat 32 n)) e.qy)
      (relOf emp 2 slices_S128x67_o0_2_S128x1 (selOf cnt s0 sn (BitVec.ofNat 32 n)) e.qz)) (x : S128x1.Idx) :
    v x = e.wOut ((Rect.unit (s := S128x32) ![0, n] S128x1.size (inb2 ⟨n, hn⟩)).emb x) := by
  rw [emb2 n (inb2 ⟨n, hn⟩) hn, hv, hc, hemp, hs0, hsn]
  exact congrArg (e.wPay ⟨n, hn⟩) (ix2_self x).symm

omit hc hemp hs0 hsn

/-- into slot `n` of the numbers. -/
theorem Epi.ix_piece (x0 : IVec S128 32) (xn : IVec S128x1 32) (hc : cnt = e.cnt) (hx0 : x0 = shapeCast S128 (e.slotX 0) shapeCasts_S128x1_S128)
    (hxn : xn = e.slotX ⟨n, hn⟩) (v : IVec S128x1 32) (hv : v = ixOf cnt x0 xn (BitVec.ofNat 32 n)) (x : S128x1.Idx) :
    v x = e.ixOut ((Rect.unit (s := S128x32) ![0, n] S128x1.size (inb2 ⟨n, hn⟩)).emb x) := by
  rw [emb2 n (inb2 ⟨n, hn⟩) hn, hv, hc, hx0, hxn]
  exact congrArg (e.ixPay ⟨n, hn⟩) (ix2_self x).symm

end Pieces

end Cert.Proof.PI

end
-- ==== Proof.PI.Body.lean ====
/-
  The kernel body on buffers whose contents are known: the loads and the zero fills, the search loop, and the epilogue.
-/
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.FrameBody
public import Idealize.ShloMosaic.Lib.Pipeline.FrameSuffix
public import Idealize.ShloMosaic.Lib.Tactic
public import Idealize.ShloMosaic.Lib.WordCmp
public import proofs.«01_k».proof.Proof.PI.Spec
public import proofs.«01_k».proof.Proof.PI.Epi

@[expose] public section

noncomputable section

namespace Cert.Proof.PI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

section Values

variable (R2 : Vec Ideal S1x1 .f32) (R3 : Vec Ideal S1x8x3x1024 .f32) (R4 : Vec Ideal S1x8x1024x67 .f32) (R5 : Vec Ideal S1x128x3 .f32)
  (R6 R7 : Vec Ideal S1x128x1 .f32)

/-- Coordinate column `k` of the queries' block, as the body loads it. -/
def col0 : Vec Ideal S1x128x1 .f32 := fun x => R5 ((Rect.unit (s := S1x128x3) ![0, 0, 0] S1x128x1.size inb_S1x128x3_S1x128x1_0_0_0).emb x)
def col1 : Vec Ideal S1x128x1 .f32 := fun x => R5 ((Rect.unit (s := S1x128x3) ![0, 0, 1] S1x128x1.size inb_S1x128x3_S1x128x1_0_0_1).emb x)
def col2 : Vec Ideal S1x128x1 .f32 := fun x => R5 ((Rect.unit (s := S1x128x3) ![0, 0, 2] S1x128x1.size inb_S1x128x3_S1x128x1_0_0_2).emb x)

/-- Whole blocks, as the body loads them. -/
def all2 : Vec Ideal S1x1 .f32 := fun x => R2 ((Rect.unit (s := S1x1) ![0, 0] S1x1.size inb_S1x1_S1x1_0_0).emb x)
def all5 : Vec Ideal S1x128x3 .f32 := fun x => R5 ((Rect.unit (s := S1x128x3) ![0, 0, 0] S1x128x3.size inb_S1x128x3_S1x128x3_0_0_0).emb x)
def all6 : Vec Ideal S1x128x1 .f32 := fun x => R6 ((Rect.unit (s := S1x128x1) ![0, 0, 0] S1x128x1.size inb_S1x128x1_S1x128x1_0_0_0).emb x)

/-- The block as the loop takes it. -/
def blk : Blk := ⟨k0_pay5 (all5 R5), k0_pay11 (col0 R5) (col1 R5) (col2 R5), k0_pay10 (all6 R7), iota .tc S1x1024 32 [1] iota_S1x1024_d1_w32, R3, R4⟩

/-- The state at the loop's entry. -/
def st₀ : St := ⟨k0_pay12 (F := Ideal), k0_pay13, k0_pay14⟩

/-- The state the loop ends in. -/
def fin : St := (blk R3 R4 R5 R7).st st₀ ((blk R3 R4 R5 R7).stop st₀ 8 0)

/-- What the epilogue works on. -/
def epi : Epi := ⟨k0_pay4 (all2 R2), k0_pay6 (col0 R5), k0_pay7 (col1 R5), k0_pay8 (col2 R5), k0_pay9 (all6 R6),
  (fin R3 R4 R5 R7).nf, (fin R3 R4 R5 R7).ix, (fin R3 R4 R5 R7).cnt⟩

end Values

/-- The first part of the body: the loads, the zero fills and the search loop. -/
theorem sound_part1 (c : Dev nD) (E : Set ℕ) (i : grid0.Coords)
    (arg2 : Memref sig .tc .vmem S1x1 .f32) (harg2 : arg2.IsWhole)
    (arg3 : Memref sig .tc .vmem S1x8x3x1024 .f32) (harg3 : arg3.IsWhole) (arg4 : Memref sig .tc .vmem S1x8x1024x67 .f32) (harg4 : arg4.IsWhole)
    (arg5 : Memref sig .tc .vmem S1x128x3 .f32) (harg5 : arg5.IsWhole) (arg6 : Memref sig .tc .vmem S1x128x1 .f32) (harg6 : arg6.IsWhole)
    (arg7 : Memref sig .tc .vmem S1x128x1 .f32) (harg7 : arg7.IsWhole)
    (arg8 : Memref sig .tc .vmem S128x32x67 .f32) (harg8 : arg8.IsWhole) (arg9 : Memref sig .tc .vmem S128x32 .f32) (harg9 : arg9.IsWhole)
    (arg10 : Memref sig .tc .vmem S128x32 .i32) (harg10 : arg10.IsWhole)
    (f2 : Buf (Elt Ideal) (arg2.view.loc (c : Thread nD τ))) (f3 : Buf (Elt Ideal) (arg3.view.loc (c : Thread nD τ)))
    (f4 : Buf (Elt Ideal) (arg4.view.loc (c : Thread nD τ))) (f5 : Buf (Elt Ideal) (arg5.view.loc (c : Thread nD τ)))
    (f6 : Buf (Elt Ideal) (arg6.view.loc (c : Thread nD τ))) (f7 : Buf (Elt Ideal) (arg7.view.loc (c : Thread nD τ)))
    (f8 : Buf (Elt Ideal) (arg8.view.loc (c : Thread nD τ))) (f9 : Buf (Elt Ideal) (arg9.view.loc (c : Thread nD τ)))
    (f10 : Buf (Elt Ideal) (arg10.view.loc (c : Thread nD τ)))
    (K : _ → sProp 𝕄) (e : Epi) (he : e = epi (arg2.view.read (Elt Ideal) f2) (arg3.view.read (Elt Ideal) f3) (arg4.view.read (Elt Ideal) f4) (arg5.view.read (Elt Ideal) f5) (arg6.view.read (Elt Ideal) f6) (arg7.view.read (Elt Ideal) f7)) (P : sProp 𝕄)
    (hK : ∀ g8 g10 v, v = ⟨e.rt, e.qx, e.qy, e.qz, e.r, e.cnt⟩ → arg8.view.read (Elt Ideal) g8 = e.N → arg10.view.read (Elt Ideal) g10 = e.X →
      iprop(P ∗ (arg2.view.loc (c : Thread nD τ) ↦{fullShare} f2) ∗ (arg3.view.loc (c : Thread nD τ) ↦{fullShare} f3)
        ∗ (arg4.view.loc (c : Thread nD τ) ↦{fullShare} f4) ∗ (arg5.view.loc (c : Thread nD τ) ↦{fullShare} f5)
        ∗ (arg6.view.loc (c : Thread nD τ) ↦{fullShare} f6) ∗ (arg7.view.loc (c : Thread nD τ) ↦{fullShare} f7)
        ∗ (arg8.view.loc (c : Thread nD τ) ↦{fullShare} g8) ∗ (arg9.view.loc (c : Thread nD τ) ↦{fullShare} f9)
        ∗ (arg10.view.loc (c : Thread nD τ) ↦{fullShare} g10)) ⊢ K v) :
    iprop(P ∗ (arg2.view.loc (c : Thread nD τ) ↦{fullShare} f2) ∗ (arg3.view.loc (c : Thread nD τ) ↦{fullShare} f3)
        ∗ (arg4.view.loc (c : Thread nD τ) ↦{fullShare} f4) ∗ (arg5.view.loc (c : Thread nD τ) ↦{fullShare} f5)
        ∗ (arg6.view.loc (c : Thread nD τ) ↦{fullShare} f6) ∗ (arg7.view.loc (c : Thread nD τ) ↦{fullShare} f7)
        ∗ (arg8.view.loc (c : Thread nD τ) ↦{fullShare} f8) ∗ (arg9.view.loc (c : Thread nD τ) ↦{fullShare} f9)
        ∗ (arg10.view.loc (c : Thread nD τ) ↦{fullShare} f10))
    ⊢ wp frame (wpE (defs₀ (F := Ideal)) 𝒱₀ (c : Thread nD τ) none) E (k0_part1 i arg2 harg2 arg3 harg3 arg4 harg4 arg5 harg5 arg6 harg6 arg7 harg7 arg8 harg8 arg9 harg9 arg10 harg10) K := by
  rw [k0_part1_eq_skeleton]; unfold k0_part1_skel
  iintro ⟨HP, H2, H3, H4, H5, H6, H7, H8, H9, H10⟩
  sl_exec
  iapply (wp_loop c E i arg3 harg3 arg4 harg4 _ _ _ _ arg8 harg8 arg10 harg10 f3 f4 st₀
    (blk (arg3.view.read (Elt Ideal) f3) (arg4.view.read (Elt Ideal) f4) (arg5.view.read (Elt Ideal) f5) (arg7.view.read (Elt Ideal) f7)) ?hb)
  case hb => rfl
  rw [spec_apply]; unfold held
  isplitl [H3 H4 H8 H10]
  · isplitl [H3]; · iexact H3
    isplitl [H4]; · iexact H4
    isplitl [H8]
    · iexists _
      isplitr
      rotate_left
      · iexact H8
      ipureintro
      refine funext fun y => View.read_writes_apply_of_pieces _ _ _ _ ?_ y ?_
      · refine List.forall_mem_cons.2 ⟨fun x => rfl, fun _ hp => absurd hp List.not_mem_nil⟩
      · exact View.cover_of_tiled _ ![128, 32, 67] (by rfl) y
    · iexists _
      isplitr
      rotate_left
      · iexact H10
      ipureintro
      refine funext fun y => View.read_writes_apply_of_pieces _ _ _ _ ?_ y ?_
      · refine List.forall_mem_cons.2 ⟨fun x => rfl, fun _ hp => absurd hp List.not_mem_nil⟩
      · exact View.cover_of_tiled _ ![128, 32] (by rfl) y
  iintro ⟨H3, H4, ⟨%g8, %e8, H8⟩, ⟨%g10, %e10, H10⟩⟩
  dsimp only
  rw [Prog.pure_eq_ret, wp_ret]; imodintro
  subst he
  iapply (hK g8 g10 _ ?hv e8 e10)
  case hv => rfl
  isplitl [HP]; · iexact HP
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

set_option maxHeartbeats 4000000 in
/-- The kernel body: the inputs are kept and the three results hold what the epilogue stores. -/
theorem sound_kernel (c : Dev nD) (E : Set ℕ) (i : grid0.Coords)
    (arg2 : Memref sig .tc .vmem S1x1 .f32) (harg2 : arg2.IsWhole)
    (arg3 : Memref sig .tc .vmem S1x8x3x1024 .f32) (harg3 : arg3.IsWhole) (arg4 : Memref sig .tc .vmem S1x8x1024x67 .f32) (harg4 : arg4.IsWhole)
    (arg5 : Memref sig .tc .vmem S1x128x3 .f32) (harg5 : arg5.IsWhole) (arg6 : Memref sig .tc .vmem S1x128x1 .f32) (harg6 : arg6.IsWhole)
    (arg7 : Memref sig .tc .vmem S1x128x1 .f32) (harg7 : arg7.IsWhole)
    (arg8 : Memref sig .tc .vmem S128x32x67 .f32) (harg8 : arg8.IsWhole) (arg9 : Memref sig .tc .vmem S128x32 .f32) (harg9 : arg9.IsWhole)
    (arg10 : Memref sig .tc .vmem S128x32 .i32) (harg10 : arg10.IsWhole)
    (f2 : Buf (Elt Ideal) (arg2.view.loc (c : Thread nD τ))) (f3 : Buf (Elt Ideal) (arg3.view.loc (c : Thread nD τ)))
    (f4 : Buf (Elt Ideal) (arg4.view.loc (c : Thread nD τ))) (f5 : Buf (Elt Ideal) (arg5.view.loc (c : Thread nD τ)))
    (f6 : Buf (Elt Ideal) (arg6.view.loc (c : Thread nD τ))) (f7 : Buf (Elt Ideal) (arg7.view.loc (c : Thread nD τ)))
    (f8 : Buf (Elt Ideal) (arg8.view.loc (c : Thread nD τ))) (f9 : Buf (Elt Ideal) (arg9.view.loc (c : Thread nD τ)))
    (f10 : Buf (Elt Ideal) (arg10.view.loc (c : Thread nD τ)))
    (K : PUnit → sProp 𝕄) (e : Epi) (he : e = epi (arg2.view.read (Elt Ideal) f2) (arg3.view.read (Elt Ideal) f3) (arg4.view.read (Elt Ideal) f4) (arg5.view.read (Elt Ideal) f5) (arg6.view.read (Elt Ideal) f6) (arg7.view.read (Elt Ideal) f7)) (P : sProp 𝕄)
    (hK : iprop(P ∗ (arg2.view.loc (c : Thread nD τ) ↦{fullShare} f2) ∗ (arg3.view.loc (c : Thread nD τ) ↦{fullShare} f3)
        ∗ (arg4.view.loc (c : Thread nD τ) ↦{fullShare} f4) ∗ (arg5.view.loc (c : Thread nD τ) ↦{fullShare} f5)
        ∗ (arg6.view.loc (c : Thread nD τ) ↦{fullShare} f6) ∗ (arg7.view.loc (c : Thread nD τ) ↦{fullShare} f7)
        ∗ (∃ g, ⌜arg8.view.read (Elt Ideal) g = e.nfOut⌝ ∗ (arg8.view.loc (c : Thread nD τ) ↦{fullShare} g))
        ∗ (∃ g, ⌜arg9.view.read (Elt Ideal) g = e.wOut⌝ ∗ (arg9.view.loc (c : Thread nD τ) ↦{fullShare} g))
        ∗ (∃ g, ⌜arg10.view.read (Elt Ideal) g = e.ixOut⌝ ∗ (arg10.view.loc (c : Thread nD τ) ↦{fullShare} g))) ⊢ K ⟨⟩) :
    iprop(P ∗ (arg2.view.loc (c : Thread nD τ) ↦{fullShare} f2) ∗ (arg3.view.loc (c : Thread nD τ) ↦{fullShare} f3)
        ∗ (arg4.view.loc (c : Thread nD τ) ↦{fullShare} f4) ∗ (arg5.view.loc (c : Thread nD τ) ↦{fullShare} f5)
        ∗ (arg6.view.loc (c : Thread nD τ) ↦{fullShare} f6) ∗ (arg7.view.loc (c : Thread nD τ) ↦{fullShare} f7)
        ∗ (arg8.view.loc (c : Thread nD τ) ↦{fullShare} f8) ∗ (arg9.view.loc (c : Thread nD τ) ↦{fullShare} f9)
        ∗ (arg10.view.loc (c : Thread nD τ) ↦{fullShare} f10))
    ⊢ wp frame (wpE (defs₀ (F := Ideal)) 𝒱₀ (c : Thread nD τ) none) E (cc0__qg_kernel i arg2 harg2 arg3 harg3 arg4 harg4 arg5 harg5 arg6 harg6 arg7 harg7 arg8 harg8 arg9 harg9 arg10 harg10) K := by
  simp only [cc0__qg_kernel_eq_skeleton]; unfold cc0__qg_kernel_skel
  rw [wp_bind, k0_part39_eq_skeleton]; unfold k0_part39_skel
  rw [wp_bind]
  refine sound_part1 c E i arg2 harg2 arg3 harg3 arg4 harg4 arg5 harg5 arg6 harg6 arg7 harg7 arg8 harg8 arg9 harg9 arg10 harg10
    f2 f3 f4 f5 f6 f7 f8 f9 f10 _ e he P ?_
  clear he
  obtain ⟨rt, qx, qy, qz, r, N, X, cnt⟩ := e
  intro g8 g10 v hv e8 e10
  dsimp only at hv
  subst hv
  dsimp only at e8 e10
  obtain rfl := e8
  obtain rfl := e10
  iintro ⟨HP, H2, H3, H4, H5, H6, H7, H8, H9, H10⟩
  sl_exec_parts
  rw [wp_ret]; imodintro
  iapply hK
  isplitl [HP]; · iexact HP
  isplitl [H2]; · iexact H2
  isplitl [H3]; · iexact H3
  isplitl [H4]; · iexact H4
  isplitl [H5]; · iexact H5
  isplitl [H6]; · iexact H6
  isplitl [H7]; · iexact H7
  isplitl [H8]
  · iexists _
    isplitr
    rotate_left
    · iexact H8
    ipureintro
    refine funext fun y => View.read_writes_apply_of_pieces _ _ _ _ ?_ y ?_
    · repeat
        refine List.forall_mem_cons.2 ⟨?_, ?_⟩
        · refine Epi.nf_piece ⟨rt, qx, qy, qz, r, arg8.view.read (Elt Ideal) g8, arg10.view.read (Elt Ideal) g10, cnt⟩ _ ?_ cnt rfl ?_ ?_ ?_ ?_ ?_ ?_ _ ?_
          rotate_right 1
          · rfl
          all_goals first | exact rfl | decide
      exact fun _ hp => absurd hp List.not_mem_nil
    · exact View.cover_of_tiled _ ![128, 1, 67] (by rfl) y
  isplitl [H9]
  · iexists _
    isplitr
    rotate_left
    · iexact H9
    ipureintro
    refine funext fun y => View.read_writes_apply_of_pieces _ _ _ _ ?_ y ?_
    · repeat
        refine List.forall_mem_cons.2 ⟨?_, ?_⟩
        · refine Epi.w_piece ⟨rt, qx, qy, qz, r, arg8.view.read (Elt Ideal) g8, arg10.view.read (Elt Ideal) g10, cnt⟩ _ ?_ cnt rfl ?_ ?_ ?_ ?_ ?_ ?_ _ ?_
          rotate_right 1
          · rfl
          all_goals first | exact rfl | decide
      exact fun _ hp => absurd hp List.not_mem_nil
    · exact View.cover_of_tiled _ ![128, 1] (by rfl) y
  · iexists _
    isplitr
    rotate_left
    · iexact H10
    ipureintro
    refine funext fun y => View.read_writes_apply_of_pieces _ _ _ _ ?_ y ?_
    · repeat
        refine List.forall_mem_cons.2 ⟨?_, ?_⟩
        · refine Epi.ix_piece ⟨rt, qx, qy, qz, r, arg8.view.read (Elt Ideal) g8, arg10.view.read (Elt Ideal) g10, cnt⟩ _ ?_ cnt ?_ ?_ rfl ?_ ?_ _ ?_
          rotate_right 1
          · rfl
          all_goals first | exact rfl | decide
      exact fun _ hp => absurd hp List.not_mem_nil
    · exact View.cover_of_tiled _ ![128, 1] (by rfl) y

end Cert.Proof.PI

end
-- ==== Proof.PI.Run.lean ====
/-
  The run of `KernelIdeal` with the results named: at each grid point the body finds the point's blocks of the region's operands
  and leaves the three result blocks computed from them, so each result array ends as those blocks laid side by side.
-/
module

public import proofs.«01_k».proof.Proof.KernelIdeal.Frame
public import proofs.«01_k».proof.Proof.PI.Body
public import Idealize.ShloMosaic.Lib.Pipeline.ValueKit

@[expose] public section

noncomputable section

namespace Cert.Proof.PI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- What core `c`'s buffer `b` holds when the region is entered. -/
abbrev V (c : Dev nD) (b : Ref sig .tc) : Buf (Elt Ideal) ((c : Thread nD τ).loc b) := Cert.Proof.KernelIdeal.V0 m c (Proc.devRef .tc b)

/-- Operand `w`'s block at point `t`. -/
def iblk (c : Dev nD) (w : Fin (cfg0 (F := Ideal)).W) (t : Fin (cfg0 (F := Ideal)).N) :
    (((cfg0 (F := Ideal)).win w).xblock ((cfg0 (F := Ideal)).grid.coords t)).Idx → Elt Ideal ((cfg0 (F := Ideal)).win w).elt :=
  (((cfg0 (F := Ideal)).win w).blk t).view.read (Elt Ideal) (V m c (Pipeline.arrRef spec0 w))

/-- What the body works on at point `t`. -/
def epiAt (c : Dev nD) (t : Fin (cfg0 (F := Ideal)).N) : Epi :=
  epi (iblk m c 0 t) (iblk m c 1 t) (iblk m c 2 t) (iblk m c 3 t) (iblk m c 4 t) (iblk m c 5 t)

/-- The proof data: the arrays as the region finds them; the operands' buffers hold the operands' blocks after the body as before
    it, the results' what the body computes. -/
def dats (_ : Fin 1) (c : Dev nD) : Dat τ (Elt Ideal) Unit ℕ (UR sig nD τ) ℕ (cfg0 (F := Ideal)) c where
  A w := V m c (Pipeline.arrRef spec0 w)
  after w t := match w with
    | ⟨0, _⟩ => iblk m c 0 t | ⟨1, _⟩ => iblk m c 1 t | ⟨2, _⟩ => iblk m c 2 t
    | ⟨3, _⟩ => iblk m c 3 t | ⟨4, _⟩ => iblk m c 4 t | ⟨5, _⟩ => iblk m c 5 t
    | ⟨6, _⟩ => (epiAt m c t).nfOut | ⟨7, _⟩ => (epiAt m c t).wOut | ⟨8, _⟩ => (epiAt m c t).ixOut
    | ⟨_ + 9, h⟩ => absurd h (Nat.not_lt.2 (Nat.le_add_left _ _))
  Φ _ := Pipeline.ΦA spec0 c
  q _ := fullShare
  owed _ := 0

theorem A_eq (c : Dev nD) (w : Fin (cfg0 (F := Ideal)).W) : (dats m 0 c).A w = V m c (Pipeline.arrRef spec0 w) := by dsimp only [dats]
theorem after0 (c : Dev nD) (t : Fin (cfg0 (F := Ideal)).N) : (dats m 0 c).after 0 t = iblk m c 0 t := by dsimp only [dats]
theorem after1 (c : Dev nD) (t : Fin (cfg0 (F := Ideal)).N) : (dats m 0 c).after 1 t = iblk m c 1 t := by dsimp only [dats]
theorem after2 (c : Dev nD) (t : Fin (cfg0 (F := Ideal)).N) : (dats m 0 c).after 2 t = iblk m c 2 t := by dsimp only [dats]
theorem after3 (c : Dev nD) (t : Fin (cfg0 (F := Ideal)).N) : (dats m 0 c).after 3 t = iblk m c 3 t := by dsimp only [dats]
theorem after4 (c : Dev nD) (t : Fin (cfg0 (F := Ideal)).N) : (dats m 0 c).after 4 t = iblk m c 4 t := by dsimp only [dats]
theorem after5 (c : Dev nD) (t : Fin (cfg0 (F := Ideal)).N) : (dats m 0 c).after 5 t = iblk m c 5 t := by dsimp only [dats]
theorem after6 (c : Dev nD) (t : Fin (cfg0 (F := Ideal)).N) : (dats m 0 c).after 6 t = (epiAt m c t).nfOut := by dsimp only [dats]
theorem after7 (c : Dev nD) (t : Fin (cfg0 (F := Ideal)).N) : (dats m 0 c).after 7 t = (epiAt m c t).wOut := by dsimp only [dats]
theorem after8 (c : Dev nD) (t : Fin (cfg0 (F := Ideal)).N) : (dats m 0 c).after 8 t = (epiAt m c t).ixOut := by dsimp only [dats]

/-- At every point the body finds an operand's block in its buffer. -/
theorem before_in (c : Dev nD) (w : Fin (cfg0 (F := Ideal)).W) (hw : ((cfg0 (F := Ideal)).win w).isOut = false)
    (hidle : ∀ i, (cfg0 (F := Ideal)).idle w i = false)
    (hclip : ∀ t t' : Fin (cfg0 (F := Ideal)).N, ((cfg0 (F := Ideal)).win w).index t = ((cfg0 (F := Ideal)).win w).index t' →
      ((cfg0 (F := Ideal)).win w).clip ((cfg0 (F := Ideal)).grid.coords t) = ((cfg0 (F := Ideal)).win w).clip ((cfg0 (F := Ideal)).grid.coords t'))
    (hafter : ∀ t, ((cfg0 (F := Ideal)).win w).cut ((cfg0 (F := Ideal)).grid.coords t) ((dats m 0 c).after w t) = iblk m c w t)
    (t : Fin (cfg0 (F := Ideal)).N) (d : ((cfg0 (F := Ideal)).win w).block.Idx → Elt Ideal ((cfg0 (F := Ideal)).win w).elt) :
    (dats m 0 c).before w t d = (dats m 0 c).fetched w t d :=
  (dats m 0 c).before_in_eq_fetched w hw hidle hclip (fun t => by rw [hafter]; unfold Dat.blockOf iblk; rw [A_eq]; try rfl) t d

theorem before0 (c : Dev nD) (t : Fin (cfg0 (F := Ideal)).N) (d) : (dats m 0 c).before 0 t d = iblk m c 0 t :=
  (before_in m c 0 rfl (fun _ => rfl) (fun _ _ _ => rfl) (fun t => by rw [after0]) t d).trans (by unfold Dat.fetched Dat.blockOf iblk; rw [A_eq]; try rfl)
theorem before1 (c : Dev nD) (t : Fin (cfg0 (F := Ideal)).N) (d) : (dats m 0 c).before 1 t d = iblk m c 1 t :=
  (before_in m c 1 rfl (fun _ => rfl) (fun _ _ _ => rfl) (fun t => by rw [after1]) t d).trans (by unfold Dat.fetched Dat.blockOf iblk; rw [A_eq]; try rfl)
theorem before2 (c : Dev nD) (t : Fin (cfg0 (F := Ideal)).N) (d) : (dats m 0 c).before 2 t d = iblk m c 2 t :=
  (before_in m c 2 rfl (fun _ => rfl) (fun _ _ _ => rfl) (fun t => by rw [after2]) t d).trans (by unfold Dat.fetched Dat.blockOf iblk; rw [A_eq]; try rfl)
theorem before3 (c : Dev nD) (t : Fin (cfg0 (F := Ideal)).N) (d) : (dats m 0 c).before 3 t d = iblk m c 3 t :=
  (before_in m c 3 rfl (fun _ => rfl) (fun _ _ _ => rfl) (fun t => by rw [after3]) t d).trans (by unfold Dat.fetched Dat.blockOf iblk; rw [A_eq]; try rfl)
theorem before4 (c : Dev nD) (t : Fin (cfg0 (F := Ideal)).N) (d) : (dats m 0 c).before 4 t d = iblk m c 4 t :=
  (before_in m c 4 rfl (fun _ => rfl) (fun _ _ _ => rfl) (fun t => by rw [after4]) t d).trans (by unfold Dat.fetched Dat.blockOf iblk; rw [A_eq]; try rfl)
theorem before5 (c : Dev nD) (t : Fin (cfg0 (F := Ideal)).N) (d) : (dats m 0 c).before 5 t d = iblk m c 5 t :=
  (before_in m c 5 rfl (fun _ => rfl) (fun _ _ _ => rfl) (fun t => by rw [after5]) t d).trans (by unfold Dat.fetched Dat.blockOf iblk; rw [A_eq]; try rfl)

/-- The nine staging buffers before the body at point `t`, with what the pipeline carries along, -/
def bodyPre (c : Dev nD) (t : Fin (cfg0 (F := Ideal)).N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d))
    ∗ (∃ d, owns (c : Thread nD τ) (st0_2 t) fullShare ((dats m 0 c).before 2 t d)) ∗ (∃ d, owns (c : Thread nD τ) (st0_3 t) fullShare ((dats m 0 c).before 3 t d))
    ∗ (∃ d, owns (c : Thread nD τ) (st0_4 t) fullShare ((dats m 0 c).before 4 t d)) ∗ (∃ d, owns (c : Thread nD τ) (st0_5 t) fullShare ((dats m 0 c).before 5 t d))
    ∗ (∃ d, owns (c : Thread nD τ) (st0_6 t) fullShare ((dats m 0 c).before 6 t d)) ∗ (∃ d, owns (c : Thread nD τ) (st0_7 t) fullShare ((dats m 0 c).before 7 t d))
    ∗ (∃ d, owns (c : Thread nD τ) (st0_8 t) fullShare ((dats m 0 c).before 8 t d)))
/-- and after it. -/
def bodyPost (c : Dev nD) (t : Fin (cfg0 (F := Ideal)).N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t)
    ∗ owns (c : Thread nD τ) (st0_2 t) fullShare ((dats m 0 c).after 2 t) ∗ owns (c : Thread nD τ) (st0_3 t) fullShare ((dats m 0 c).after 3 t)
    ∗ owns (c : Thread nD τ) (st0_4 t) fullShare ((dats m 0 c).after 4 t) ∗ owns (c : Thread nD τ) (st0_5 t) fullShare ((dats m 0 c).after 5 t)
    ∗ owns (c : Thread nD τ) (st0_6 t) fullShare ((dats m 0 c).after 6 t) ∗ owns (c : Thread nD τ) (st0_7 t) fullShare ((dats m 0 c).after 7 t)
    ∗ owns (c : Thread nD τ) (st0_8 t) fullShare ((dats m 0 c).after 8 t))

/-- The kernel body from operands' buffers at six blocks to the results' buffers at what it computes from them, over buffers owned
    as the pipeline owns them. -/
theorem sound_owns (c : Dev nD) (i : grid0.Coords) (P P' : sProp 𝕄)
    (arg2 : Memref sig .tc .vmem S1x1 .f32) (harg2 : arg2.IsWhole)
    (arg3 : Memref sig .tc .vmem S1x8x3x1024 .f32) (harg3 : arg3.IsWhole) (arg4 : Memref sig .tc .vmem S1x8x1024x67 .f32) (harg4 : arg4.IsWhole)
    (arg5 : Memref sig .tc .vmem S1x128x3 .f32) (harg5 : arg5.IsWhole) (arg6 : Memref sig .tc .vmem S1x128x1 .f32) (harg6 : arg6.IsWhole)
    (arg7 : Memref sig .tc .vmem S1x128x1 .f32) (harg7 : arg7.IsWhole)
    (arg8 : Memref sig .tc .vmem S128x32x67 .f32) (harg8 : arg8.IsWhole) (arg9 : Memref sig .tc .vmem S128x32 .f32) (harg9 : arg9.IsWhole)
    (arg10 : Memref sig .tc .vmem S128x32 .i32) (harg10 : arg10.IsWhole)
    (R2 : Vec Ideal S1x1 .f32) (R3 : Vec Ideal S1x8x3x1024 .f32) (R4 : Vec Ideal S1x8x1024x67 .f32) (R5 : Vec Ideal S1x128x3 .f32)
    (R6 R7 : Vec Ideal S1x128x1 .f32) :
    iprop(P ∗ P' ∗ owns (c : Thread nD τ) arg2 fullShare R2 ∗ owns (c : Thread nD τ) arg3 fullShare R3 ∗ owns (c : Thread nD τ) arg4 fullShare R4
      ∗ owns (c : Thread nD τ) arg5 fullShare R5 ∗ owns (c : Thread nD τ) arg6 fullShare R6 ∗ owns (c : Thread nD τ) arg7 fullShare R7
      ∗ (∃ X, owns (c : Thread nD τ) arg8 fullShare X) ∗ (∃ X, owns (c : Thread nD τ) arg9 fullShare X) ∗ (∃ X, owns (c : Thread nD τ) arg10 fullShare X))
    ⊢ wp frame (wpE (defs₀ (F := Ideal)) 𝒱₀ (c : Thread nD τ) none) Set.univ (cc0__qg_kernel i arg2 harg2 arg3 harg3 arg4 harg4 arg5 harg5 arg6 harg6 arg7 harg7 arg8 harg8 arg9 harg9 arg10 harg10)
      (fun _ => iprop(P ∗ P' ∗ owns (c : Thread nD τ) arg2 fullShare R2 ∗ owns (c : Thread nD τ) arg3 fullShare R3 ∗ owns (c : Thread nD τ) arg4 fullShare R4
      ∗ owns (c : Thread nD τ) arg5 fullShare R5 ∗ owns (c : Thread nD τ) arg6 fullShare R6 ∗ owns (c : Thread nD τ) arg7 fullShare R7
      ∗ owns (c : Thread nD τ) arg8 fullShare (epi R2 R3 R4 R5 R6 R7).nfOut ∗ owns (c : Thread nD τ) arg9 fullShare (epi R2 R3 R4 R5 R6 R7).wOut
      ∗ owns (c : Thread nD τ) arg10 fullShare (epi R2 R3 R4 R5 R6 R7).ixOut)) := by
  unfold owns
  rw [harg2.set_eq_univ, harg3.set_eq_univ, harg4.set_eq_univ, harg5.set_eq_univ, harg6.set_eq_univ, harg7.set_eq_univ, harg8.set_eq_univ, harg9.set_eq_univ, harg10.set_eq_univ]
  iintro ⟨HP, HP', ⟨%f2, %e2, H2⟩, ⟨%f3, %e3, H3⟩, ⟨%f4, %e4, H4⟩, ⟨%f5, %e5, H5⟩, ⟨%f6, %e6, H6⟩, ⟨%f7, %e7, H7⟩, ⟨%X8, %f8, -, H8⟩, ⟨%X9, %f9, -, H9⟩, ⟨%X10, %f10, -, H10⟩⟩
  have key := sound_kernel c Set.univ i arg2 harg2 arg3 harg3 arg4 harg4 arg5 harg5 arg6 harg6 arg7 harg7 arg8 harg8 arg9 harg9 arg10 harg10
    f2 f3 f4 f5 f6 f7 f8 f9 f10 (fun _ => iprop(P ∗ P' ∗ (∃ f, ⌜arg2.view.read (Elt Ideal) f = R2⌝ ∗ (arg2.view.loc (c : Thread nD τ) ↦{fullShare} f)) ∗ (∃ f, ⌜arg3.view.read (Elt Ideal) f = R3⌝ ∗ (arg3.view.loc (c : Thread nD τ) ↦{fullShare} f))
      ∗ (∃ f, ⌜arg4.view.read (Elt Ideal) f = R4⌝ ∗ (arg4.view.loc (c : Thread nD τ) ↦{fullShare} f)) ∗ (∃ f, ⌜arg5.view.read (Elt Ideal) f = R5⌝ ∗ (arg5.view.loc (c : Thread nD τ) ↦{fullShare} f))
      ∗ (∃ f, ⌜arg6.view.read (Elt Ideal) f = R6⌝ ∗ (arg6.view.loc (c : Thread nD τ) ↦{fullShare} f)) ∗ (∃ f, ⌜arg7.view.read (Elt Ideal) f = R7⌝ ∗ (arg7.view.loc (c : Thread nD τ) ↦{fullShare} f))
      ∗ (∃ f, ⌜arg8.view.read (Elt Ideal) f = (epi R2 R3 R4 R5 R6 R7).nfOut⌝ ∗ (arg8.view.loc (c : Thread nD τ) ↦{fullShare} f)) ∗ (∃ f, ⌜arg9.view.read (Elt Ideal) f = (epi R2 R3 R4 R5 R6 R7).wOut⌝ ∗ (arg9.view.loc (c : Thread nD τ) ↦{fullShare} f))
      ∗ (∃ f, ⌜arg10.view.read (Elt Ideal) f = (epi R2 R3 R4 R5 R6 R7).ixOut⌝ ∗ (arg10.view.loc (c : Thread nD τ) ↦{fullShare} f))))
    (epi R2 R3 R4 R5 R6 R7) (by rw [e2, e3, e4, e5, e6, e7]) iprop(P ∗ P') (by
      generalize epi R2 R3 R4 R5 R6 R7 = e
      iintro ⟨⟨HP, HP'⟩, H2, H3, H4, H5, H6, H7, H8, H9, H10⟩
      isplitl [HP]; · iexact HP
      isplitl [HP']; · iexact HP'
      isplitl [H2]; · iexists f2; isplitr; · ipureintro; exact e2
                      iexact H2
      isplitl [H3]; · iexists f3; isplitr; · ipureintro; exact e3
                      iexact H3
      isplitl [H4]; · iexists f4; isplitr; · ipureintro; exact e4
                      iexact H4
      isplitl [H5]; · iexists f5; isplitr; · ipureintro; exact e5
                      iexact H5
      isplitl [H6]; · iexists f6; isplitr; · ipureintro; exact e6
                      iexact H6
      isplitl [H7]; · iexists f7; isplitr; · ipureintro; exact e7
                      iexact H7
      isplitl [H8]; · iexact H8
      isplitl [H9]; · iexact H9
      iexact H10)
  iapply key
  isplitl [HP HP']
  · isplitl [HP]; · iexact HP
    iexact HP'
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

set_option maxRecDepth 8000 in
/-- The body at a point. -/
theorem sound_body (c : Dev nD) (t : Fin (cfg0 (F := Ideal)).N) :
    bodyPre m c t ⊢ wp frame (wpE (defs₀ (F := Ideal)) 𝒱₀ (c : Thread nD τ) none) Set.univ (bodyAt0 t) (fun _ => bodyPost m c t) := by
  unfold bodyPre bodyPost
  simp only [before0, before1, before2, before3, before4, before5]
  rw [show (dats m 0 c).Φ t.succ = (dats m 0 c).Φ t.castSucc from rfl, show (dats m 0 c).owesAt () t.succ = (dats m 0 c).owesAt () t.castSucc from rfl,
    after0, after1, after2, after3, after4, after5, after6, after7, after8]
  have key := sound_owns c (grid0.coords t) ((dats m 0 c).Φ t.castSucc) ((dats m 0 c).owesAt () t.castSucc) (st0_0 t) (hstage0_0 (((cfg0 (F := Ideal)).slots t 0).cast nbuf0_0)) (st0_1 t) (hstage0_1 (((cfg0 (F := Ideal)).slots t 1).cast nbuf0_1)) (st0_2 t) (hstage0_2 (((cfg0 (F := Ideal)).slots t 2).cast nbuf0_2)) (st0_3 t) (hstage0_3 (((cfg0 (F := Ideal)).slots t 3).cast nbuf0_3)) (st0_4 t) (hstage0_4 (((cfg0 (F := Ideal)).slots t 4).cast nbuf0_4)) (st0_5 t) (hstage0_5 (((cfg0 (F := Ideal)).slots t 5).cast nbuf0_5)) (st0_6 t) (hstage0_6 (((cfg0 (F := Ideal)).slots t 6).cast nbuf0_6)) (st0_7 t) (hstage0_7 (((cfg0 (F := Ideal)).slots t 7).cast nbuf0_7)) (st0_8 t) (hstage0_8 (((cfg0 (F := Ideal)).slots t 8).cast nbuf0_8))
    (iblk m c 0 t) (iblk m c 1 t) (iblk m c 2 t) (iblk m c 3 t) (iblk m c 4 t) (iblk m c 5 t)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply key
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iexists _; iexact H8

/-- The same as the pipeline asks it. -/
theorem body_obligation (c : Dev nD) :
    Pipeline.BodyObligationLoose (dats m 0 c) (defs₀ (F := Ideal)) 𝒱₀ () Set.univ := fun t => by
  rw [bigSep_W0, bigSep_W0, Cert.Proof.KernelIdeal.defs₀_row]
  exact triple_restated (sound_body m c t) rfl .rfl fun _ => .rfl

set_option backward.isDefEq.respectTransparency.types false in
set_option maxHeartbeats 4000000 in
/-- From any memory with zero counters @main runs; the results end as the region's result arrays (the features' transposed), the
    arguments as they were. -/
theorem run :
    θ_run defs (onTc (τ := τ) (main (F := Ideal))) ⟨m, fun _ => 0, ρ⟩ (fun r => ∀ c : Dev nD,
      r.2.mem ((c.tc : Thread nD τ).loc main_v18) = transpose S8192x67x32 [0, 2, 1] ((dats m 0 c).arrAt 6 (cfg0 (F := Ideal)).N) transposes_S8192x32x67_S8192x67x32_0_2_1
      ∧ r.2.mem ((c.tc : Thread nD τ).loc main_v17_1) = (dats m 0 c).arrAt 7 (cfg0 (F := Ideal)).N
      ∧ r.2.mem ((c.tc : Thread nD τ).loc main_v17_2) = (dats m 0 c).arrAt 8 (cfg0 (F := Ideal)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_frame_around (cfgs (F := Ideal)) (dats m) (0 : Fin 1) launch0 defs₀ 𝒱₀ m ρ main
    (hbody := fun c => body_obligation m c) (hshare := fun c w => by simp only [Dat.share, dats]; split <;> rfl)
    (howed := fun _ _ => rfl) (V₀ := Cert.Proof.KernelIdeal.V0 m) (opss := [hostOps1])
    (hsub := Cert.Proof.KernelIdeal.sfx_sub) (hfresh := Cert.Proof.KernelIdeal.sfx_fresh) (hkeep := Cert.Proof.KernelIdeal.sfx_keeps)
    (hmain := Cert.Proof.KernelIdeal.hmain m) (hA := fun _ _ => rfl) (hΦ := fun _ _ => rfl)
    (Q' := _) (hQ' := fun r h c => by
      have hkept : ∀ b ∈ ([main_arg0, main_arg1, main_arg2, main_arg3, main_arg4, main_arg5, main_arg6] : List (Ref sig .tc)),
          r.2.mem ((c.tc : Thread nD τ).loc b) = m ((c.tc : Thread nD τ).loc b) := fun b hb =>
        ((h.1 c).2 b (by revert b; exact (by decide : ∀ b ∈ ([main_arg0, main_arg1, main_arg2, main_arg3, main_arg4, main_arg5, main_arg6] : List (Ref sig .tc)), b ∈ Pipeline.restRefs sig spec0))).trans <| by
          unfold Pipeline.afterTail₀
          rw [StableHlo.after_of_forall_not_mem (b := Proc.devRef .tc b) _ _ (fun op hop => by
              rw [Cert.Proof.KernelIdeal.sfx_writes hostOps1 (List.mem_singleton_self _) op (by simpa using hop), Finset.mem_singleton]
              refine StableHlo.devRef_ne_of_ne ?_
              revert b; decide)]
          exact (Pipeline.withArrays_of_ne _ _ _ _ b (by revert b; decide)).trans (Cert.Proof.KernelIdeal.V_arg m c b hb)
      refine ⟨?_, (h.1 c).1 7, (h.1 c).1 8, hkept _ (by decide), hkept _ (by decide), hkept _ (by decide), hkept _ (by decide), hkept _ (by decide), hkept _ (by decide), hkept _ (by decide)⟩
      refine ((h.1 c).2 main_v18 (by decide)).trans ?_
      unfold Pipeline.afterTail₀
      simp only [List.flatten_cons, List.flatten_nil, List.append_nil]
      after_results
      exact congrArg (fun x : Vec Ideal S8192x32x67 .f32 => transpose S8192x67x32 [0, 2, 1] x transposes_S8192x32x67_S8192x67x32_0_2_1)
        (Pipeline.withArrays_arr spec0 (launch0 (F := Ideal)).win.arr_inj c _ (fun w => (dats m 0 c).arrAt w (cfg0 (F := Ideal)).N) 6))

end Cert.Proof.PI

end
-- ==== Proof.PI.Blocks.lean ====
/-
  The blocks the body finds at a grid point, element by element over @main's arguments: point `t` is the query block of rows
  128 t … 128 t + 127, all of one cloud, number t / 16.
-/
module

public import proofs.«01_k».proof.Proof.PI.Run

@[expose] public section

noncomputable section

namespace Cert.Proof.PI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

set_option maxRecDepth 16384

variable (m : (ℓ : Loc nD τ sig) → Buf (Elt Ideal) ℓ)

/-- The arguments: the points, the queries, the radii, the features, the temperature's number. -/
abbrev aP (c : Dev nD) : FVec Ideal S32768x3 .f32 := m ((c : Thread nD τ).loc main_arg0)
abbrev aQ (c : Dev nD) : FVec Ideal S8192x3 .f32 := m ((c : Thread nD τ).loc main_arg2)
abbrev aR (c : Dev nD) : FVec Ideal S8192x1 .f32 := m ((c : Thread nD τ).loc main_arg3)
abbrev aF (c : Dev nD) : FVec Ideal S32768x64 .f32 := m ((c : Thread nD τ).loc main_arg5)
/-- The temperature. -/
def aT (c : Dev nD) : FVec Ideal S_ .f32 := mulf (constant S_ .f32 0x3CA3D70A#32) (sitofp .f32 (m ((c : Thread nD τ).loc main_arg6)))

theorem V_v7 (c : Dev nD) : V m c main_v7 = shapeCast S1x1 (aT m c) shapeCasts_S_S1x1 := by
  unfold V Cert.Proof.KernelIdeal.V0
  simp only [List.flatten_cons, List.flatten_nil, List.append_nil]
  after_results
  rfl
theorem V_v11 (c : Dev nD) : V m c main_v11 = transpose S4x8x3x1024 [0, 2, 1, 3] (shapeCast S4x3x8x1024
    (transpose S4x3x8192 [0, 2, 1] (shapeCast S4x8192x3 (aP m c) shapeCasts_S32768x3_S4x8192x3) transposes_S4x8192x3_S4x3x8192_0_2_1)
    shapeCasts_S4x3x8192_S4x3x8x1024) transposes_S4x3x8x1024_S4x8x3x1024_0_2_1_3 := by
  unfold V Cert.Proof.KernelIdeal.V0
  simp only [List.flatten_cons, List.flatten_nil, List.append_nil]
  after_results
  rfl
theorem V_v13 (c : Dev nD) : V m c main_v13 = shapeCast S4x8x1024x67 (concatenate S32768x67 1 [⟨S32768x3, aP m c⟩, ⟨S32768x64, aF m c⟩]
    concatenates_S32768x3_S32768x64_S32768x67_d1) shapeCasts_S32768x67_S4x8x1024x67 := by
  unfold V Cert.Proof.KernelIdeal.V0
  simp only [List.flatten_cons, List.flatten_nil, List.append_nil]
  after_results
  rfl
theorem V_v14 (c : Dev nD) : V m c main_v14 = shapeCast S4x2048x3 (aQ m c) shapeCasts_S8192x3_S4x2048x3 := by
  unfold V Cert.Proof.KernelIdeal.V0
  simp only [List.flatten_cons, List.flatten_nil, List.append_nil]
  after_results
  rfl
theorem V_v15 (c : Dev nD) : V m c main_v15 = shapeCast S4x2048x1 (aR m c) shapeCasts_S8192x1_S4x2048x1 := by
  unfold V Cert.Proof.KernelIdeal.V0
  simp only [List.flatten_cons, List.flatten_nil, List.append_nil]
  after_results
  rfl
theorem V_v16 (c : Dev nD) : V m c main_v16 = shapeCast S4x2048x1 (addf (aR m c) (broadcastInDim S8192x1 ![] bcast_S_S8192x1
    (id (mulf (aT m c) (constant S_ .f32 0x40A00000#32))))) shapeCasts_S8192x1_S4x2048x1 := by
  unfold V Cert.Proof.KernelIdeal.V0
  simp only [List.flatten_cons, List.flatten_nil, List.append_nil]
  after_results
  rfl

/-- The windows' block indices. -/
theorem idx : ∀ t : Fin (cfg0 (F := Ideal)).N, win0_0.index t = ![0, 0] ∧ win0_1.index t = ![t.val / 16, 0, 0, 0] ∧ win0_2.index t = ![t.val / 16, 0, 0, 0]
    ∧ win0_3.index t = ![t.val / 16, t.val % 16, 0] ∧ win0_4.index t = ![t.val / 16, t.val % 16, 0] ∧ win0_5.index t = ![t.val / 16, t.val % 16, 0]
    ∧ win0_6.index t = ![t.val, 0, 0] ∧ win0_7.index t = ![t.val, 0] ∧ win0_8.index t = ![t.val, 0] :=
  (by decide +kernel : ∀ t : Fin grid0.N, _)

theorem lt_N (t : Fin (cfg0 (F := Ideal)).N) : t.val < 64 := t.isLt

theorem iblk0_apply (c : Dev nD) (t : Fin (cfg0 (F := Ideal)).N) (x : S1x1.Idx) : iblk m c 0 t x = V m c main_v7 (ix2 (0 : Fin 1) (0 : Fin 1)) := by
  blk_ext [iblk, idx t]
theorem iblk1_apply (c : Dev nD) (t : Fin (cfg0 (F := Ideal)).N) (ch : Fin 8) (a : Fin 3) (j : Fin 1024) :
    iblk m c 1 t (ix4 (0 : Fin 1) ch a j) = V m c main_v11 (ix4 (⟨t.val / 16, by have := lt_N t; omega⟩ : Fin 4) ch a j) := by
  blk_ext [iblk, idx t]
theorem iblk2_apply (c : Dev nD) (t : Fin (cfg0 (F := Ideal)).N) (ch : Fin 8) (j : Fin 1024) (d : Fin 67) :
    iblk m c 2 t (ix4 (0 : Fin 1) ch j d) = V m c main_v13 (ix4 (⟨t.val / 16, by have := lt_N t; omega⟩ : Fin 4) ch j d) := by
  blk_ext [iblk, idx t]
theorem iblk3_apply (c : Dev nD) (t : Fin (cfg0 (F := Ideal)).N) (r : Fin 128) (a : Fin 3) :
    iblk m c 3 t (ix3 (0 : Fin 1) r a) = V m c main_v14 (ix3 (⟨t.val / 16, by have := lt_N t; omega⟩ : Fin 4) (⟨t.val % 16 * 128 + r.val, by omega⟩ : Fin 2048) a) := by
  blk_ext [iblk, idx t]
theorem iblk4_apply (c : Dev nD) (t : Fin (cfg0 (F := Ideal)).N) (r : Fin 128) :
    iblk m c 4 t (ix3 (0 : Fin 1) r (0 : Fin 1)) = V m c main_v15 (ix3 (⟨t.val / 16, by have := lt_N t; omega⟩ : Fin 4) (⟨t.val % 16 * 128 + r.val, by omega⟩ : Fin 2048) (0 : Fin 1)) := by
  blk_ext [iblk, idx t]
theorem iblk5_apply (c : Dev nD) (t : Fin (cfg0 (F := Ideal)).N) (r : Fin 128) :
    iblk m c 5 t (ix3 (0 : Fin 1) r (0 : Fin 1)) = V m c main_v16 (ix3 (⟨t.val / 16, by have := lt_N t; omega⟩ : Fin 4) (⟨t.val % 16 * 128 + r.val, by omega⟩ : Fin 2048) (0 : Fin 1)) := by
  blk_ext [iblk, idx t]

/-- Row `r` of block `t`, among all queries; -/
def rowOf (t : Fin (cfg0 (F := Ideal)).N) (r : Fin 128) : Fin 8192 := ⟨128 * t.val + r.val, by have := lt_N t; omega⟩
/-- point `j` of its cloud, among all points. -/
def ptOf (t : Fin (cfg0 (F := Ideal)).N) (j : Fin 8192) : Fin 32768 := ⟨8192 * (t.val / 16) + j.val, by have := lt_N t; omega⟩

theorem R3_apply (c : Dev nD) (t : Fin (cfg0 (F := Ideal)).N) (ch : Fin 8) (a : Fin 3) (j : Fin 1024) :
    iblk m c 1 t (ix4 (0 : Fin 1) ch a j) = aP m c (ix2 (ptOf t ⟨1024 * ch.val + j.val, by omega⟩) a) := by
  rw [iblk1_apply, V_v11]
  generalize aP m c = p
  pointwise
  exact congrArg (fun R => p (ix2 R a)) (Fin.ext (by show t.val / 16 * 8192 + (ch.val * 1024 + j.val) = 8192 * (t.val / 16) + (1024 * ch.val + j.val); omega))
theorem R4_apply (c : Dev nD) (t : Fin (cfg0 (F := Ideal)).N) (ch : Fin 8) (j : Fin 1024) (d : Fin 67) :
    iblk m c 2 t (ix4 (0 : Fin 1) ch j d) = if h : d.val < 3 then aP m c (ix2 (ptOf t ⟨1024 * ch.val + j.val, by omega⟩) ⟨d.val, h⟩)
      else aF m c (ix2 (ptOf t ⟨1024 * ch.val + j.val, by omega⟩) ⟨d.val - 3, by omega⟩) := by
  rw [iblk2_apply, V_v13]
  generalize aP m c = p
  generalize aF m c = f
  pointwise
  have e : t.val / 16 * 8192 + ch.val * 1024 + j.val = 8192 * (t.val / 16) + (1024 * ch.val + j.val) := by omega
  split
  · exact congrArg (fun R => p (ix2 R _)) (Fin.ext e)
  · exact congrArg (fun R => f (ix2 R _)) (Fin.ext e)
theorem R5_apply (c : Dev nD) (t : Fin (cfg0 (F := Ideal)).N) (r : Fin 128) (a : Fin 3) : iblk m c 3 t (ix3 (0 : Fin 1) r a) = aQ m c (ix2 (rowOf t r) a) := by
  rw [iblk3_apply, V_v14]
  generalize aQ m c = p
  pointwise
  exact congrArg (fun R => p (ix2 R a)) (Fin.ext (by show t.val / 16 * 2048 + (t.val % 16 * 128 + r.val) = 128 * t.val + r.val; omega))
theorem R6_apply (c : Dev nD) (t : Fin (cfg0 (F := Ideal)).N) (r : Fin 128) : iblk m c 4 t (ix3 (0 : Fin 1) r (0 : Fin 1)) = aR m c (ix2 (rowOf t r) 0) := by
  rw [iblk4_apply, V_v15]
  generalize aR m c = p
  pointwise
  exact congrArg (fun R => p (ix2 R 0)) (Fin.ext (by show t.val / 16 * 2048 + (t.val % 16 * 128 + r.val) = 128 * t.val + r.val; omega))
theorem R7_apply (c : Dev nD) (t : Fin (cfg0 (F := Ideal)).N) (r : Fin 128) : iblk m c 5 t (ix3 (0 : Fin 1) r (0 : Fin 1))
    = (aR m c (ix2 (rowOf t r) 0) : EReal) + aT m c ix0 * Ideal.ofBits .f32 0x40A00000#32 := by
  rw [iblk5_apply, V_v16]
  generalize aR m c = p
  generalize aT m c = q
  pointwise
  exact congrArg (fun R => (p (ix2 R 0) : EReal) + _) (Fin.ext (by show t.val / 16 * 2048 + (t.val % 16 * 128 + r.val) = 128 * t.val + r.val; omega))
theorem R2_apply (c : Dev nD) (t : Fin (cfg0 (F := Ideal)).N) (x : S1x1.Idx) : iblk m c 0 t x = aT m c ix0 := by
  rw [iblk0_apply, V_v7]
  generalize aT m c = q
  pointwise

end Cert.Proof.PI

end
-- ==== Proof.PI.Count.lean ====
/-
  Counting facts: where a sum over a stretch of numbers picks the one number of a given rank, what a state that has gone through
  all numbers below a bound holds for a rank, and one doubling step of a running count.
-/
module

public import Mathlib.Data.Nat.Count
public import Mathlib.Data.BitVec
public import Mathlib.Algebra.BigOperators.Fin

@[expose] public section

namespace Cert.Proof.PI

variable (p : ℕ → Prop) [DecidablePred p]

/-- A number that has `p` and `s` numbers with `p` below it, where there is one. -/
noncomputable def nthOf (s : ℕ) : ℕ := Classical.epsilon fun j => p j ∧ Nat.count p j = s

theorem nthOf_spec (s : ℕ) (h : ∃ j, p j ∧ Nat.count p j = s) : p (nthOf p s) ∧ Nat.count p (nthOf p s) = s := Classical.epsilon_spec h

/-- There is only one such number. -/
theorem nthOf_count {j : ℕ} (h : p j) : nthOf p (Nat.count p j) = j := by
  obtain ⟨h1, h2⟩ := nthOf_spec p (Nat.count p j) ⟨j, h, rfl⟩
  exact Nat.count_injective h1 h h2

/-- Every rank below the count up to `b` is the rank of a number below `b`. -/
theorem exists_rank (b s : ℕ) (h : s < Nat.count p b) : ∃ j, j < b ∧ p j ∧ Nat.count p j = s := by
  induction b with
  | zero => rw [Nat.count_zero] at h; omega
  | succ b ih =>
    by_cases hb : s < Nat.count p b
    · obtain ⟨j, hj, hp, hc⟩ := ih hb; exact ⟨j, by omega, hp, hc⟩
    · rw [Nat.count_succ] at h
      by_cases hp : p b
      · rw [if_pos hp] at h; exact ⟨b, by omega, hp, by omega⟩
      · rw [if_neg hp] at h; omega

theorem nthOf_lt (b s : ℕ) (h : s < Nat.count p b) : nthOf p s < b ∧ p (nthOf p s) ∧ Nat.count p (nthOf p s) = s := by
  obtain ⟨j, hj, hp, rfl⟩ := exists_rank p b s h
  rw [nthOf_count p hp]; exact ⟨hj, hp, rfl⟩

/-- Over a stretch of `n` numbers from `b`, the sum of `val` at the numbers that have `p` and the rank `s` is `val` at the number
    of rank `s`, if it lies in the stretch. -/
theorem hit_sum {M : Type} [AddCommMonoid M] (val : ℕ → M) (b s n : ℕ) :
    (∑ i : Fin n, if p (b + i.val) ∧ Nat.count p (b + i.val) = s then val (b + i.val) else 0)
      = if Nat.count p b ≤ s ∧ s < Nat.count p (b + n) then val (nthOf p s) else 0 := by
  induction n with
  | zero => rw [if_neg (by simp only [Nat.add_zero]; omega)]; simp
  | succ n ih =>
    rw [Fin.sum_univ_castSucc]
    simp only [Fin.val_castSucc, Fin.val_last]
    rw [ih, ← Nat.add_assoc, Nat.count_succ]
    have hm : Nat.count p b ≤ Nat.count p (b + n) := Nat.count_monotone p (Nat.le_add_right b n)
    by_cases h : p (b + n)
    · rw [if_pos h]
      by_cases hs : Nat.count p (b + n) = s
      · rw [if_neg (by omega), if_pos ⟨h, hs⟩, if_pos (by omega), zero_add, ← hs, nthOf_count p h]
      · rw [if_neg (c := p (b + n) ∧ Nat.count p (b + n) = s) (fun hh => hs hh.2), add_zero]
        exact if_congr (by omega) rfl rfl
    · rw [if_neg h, if_neg (c := p (b + n) ∧ Nat.count p (b + n) = s) (fun hh => h hh.1), add_zero, Nat.add_zero]

/-- What is held for rank `s` once the numbers below `b` have been gone through. -/
noncomputable def heldAt {M : Type} [AddCommMonoid M] (val : ℕ → M) (b s : ℕ) : M := if s < Nat.count p b then val (nthOf p s) else 0

/-- Going through `n` more numbers. -/
theorem heldAt_add {M : Type} [AddCommMonoid M] (val : ℕ → M) (b s n : ℕ) :
    heldAt p val b s + (∑ i : Fin n, if p (b + i.val) ∧ Nat.count p (b + i.val) = s then val (b + i.val) else 0) = heldAt p val (b + n) s := by
  rw [hit_sum]
  have hm : Nat.count p b ≤ Nat.count p (b + n) := Nat.count_monotone p (Nat.le_add_right b n)
  unfold heldAt
  by_cases h : s < Nat.count p b
  · rw [if_pos h, if_neg (by omega), if_pos (by omega), add_zero]
  · rw [if_neg h, zero_add]
    exact if_congr (by omega) rfl rfl

theorem heldAt_zero {M : Type} [AddCommMonoid M] (val : ℕ → M) (s : ℕ) : heldAt p val 0 s = 0 := by
  unfold heldAt; rw [Nat.count_zero, if_neg (by omega)]

/-- Where all of rank `s` and below are found already, going on changes nothing. -/
theorem heldAt_of_lt {M : Type} [AddCommMonoid M] (val : ℕ → M) (b b' s : ℕ) (h : s < Nat.count p b) (hb : b ≤ b') : heldAt p val b s = heldAt p val b' s := by
  unfold heldAt; rw [if_pos h, if_pos (lt_of_lt_of_le h (Nat.count_monotone p hb))]

/-- One doubling step of a running count: the counts over the last `k` positions, added to those `k` positions before. -/
theorem window_step (c : ℕ → ℕ) (hc : Monotone c) (k j : ℕ) :
    BitVec.ofNat 32 (c (j + 1) - c (j + 1 - k)) + (if j < k then 0#32 else BitVec.ofNat 32 (c (j - k + 1) - c (j - k + 1 - k)))
      = BitVec.ofNat 32 (c (j + 1) - c (j + 1 - (k + k))) := by
  by_cases h : j < k
  · rw [if_pos h, BitVec.add_zero, show j + 1 - k = 0 by omega, show j + 1 - (k + k) = 0 by omega]
  · rw [if_neg h, ← BitVec.ofNat_add, show j - k + 1 = j + 1 - k by omega, show j + 1 - (k + k) = j + 1 - k - k by omega]
    have h1 : c (j + 1 - k) ≤ c (j + 1) := hc (by omega)
    have h2 : c (j + 1 - k - k) ≤ c (j + 1 - k) := hc (by omega)
    congr 1; omega

end Cert.Proof.PI

end
-- ==== Proof.PI.Scan.lean ====
/-
  The running counts of a chunk: ten doubling steps over the indicator of the ball give, at each point, how many points of the
  chunk up to it are in the ball.
-/
module

public import proofs.«01_k».proof.Proof.PI.Loop
public import proofs.«01_k».proof.Proof.PI.Count

@[expose] public section

noncomputable section

namespace Cert.Proof.PI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- `f` holds, for each query and position, how many of the last `k` positions are counted by `c`. -/
def Win (c : Fin 128 → ℕ → ℕ) (f : IVec S128x1024 32) (k : ℕ) : Prop :=
  ∀ (r : Fin 128) (j : Fin 1024), f (ix2 r j) = BitVec.ofNat 32 (c r (j.val + 1) - c r (j.val + 1 - k))

/-- One step of the scan, element by element. -/
theorem scan_apply (k m : ℕ) (hkm : k + m = 1024) (f : IVec S128x1024 32) (hs : S128x1024.Slices ![0, 0] (⟨2, ![128, m]⟩ : Shape))
    (hc : Shape.Concatenates [(⟨2, ![128, k]⟩ : Shape), (⟨2, ![128, m]⟩ : Shape)] S128x1024 1) (r : Fin 128) (j : Fin 1024) :
    addi f (concatenate S128x1024 1 [⟨(⟨2, ![128, k]⟩ : Shape), broadcast (⟨2, ![128, k]⟩ : Shape) 0#32⟩,
        ⟨(⟨2, ![128, m]⟩ : Shape), extractStridedSlice (⟨2, ![128, m]⟩ : Shape) ![0, 0] f hs⟩] hc) (ix2 r j)
      = f (ix2 r j) + (if j.val < k then 0#32 else f (ix2 r ⟨j.val - k, by omega⟩)) := by
  refine congrArg (f (ix2 r j) + ·) ?_
  by_cases h : j.val < k
  · rw [if_pos h]
    rw [concatenate_pair_apply, dif_pos (by exact h)]
    rfl
  · rw [if_neg h]
    rw [concatenate_pair_apply, dif_neg (by exact h)]
    refine congrArg f (funext fun a => Fin.ext ?_)
    fin_cases a
    · exact Nat.zero_add _
    · exact Nat.zero_add _

/-- One step of the scan doubles the window. -/
theorem Win.step {c : Fin 128 → ℕ → ℕ} (hc : ∀ r, Monotone (c r)) {f : IVec S128x1024 32} (k m : ℕ) (hkm : k + m = 1024) (hs) (hcc) (h : Win c f k) :
    Win c (addi f (concatenate S128x1024 1 [⟨(⟨2, ![128, k]⟩ : Shape), broadcast (⟨2, ![128, k]⟩ : Shape) 0#32⟩,
        ⟨(⟨2, ![128, m]⟩ : Shape), extractStridedSlice (⟨2, ![128, m]⟩ : Shape) ![0, 0] f hs⟩] hcc)) (k + k) := by
  intro r j
  rw [scan_apply k m hkm, h r j, ← window_step (c r) (hc r) k j.val]
  by_cases hj : j.val < k
  · rw [if_pos hj, if_pos hj]
  · rw [if_neg hj, if_neg hj, h r _]

variable (B : Blk)

/-- Whether point `j` is in the ball of query `r`. -/
def Blk.bit (r : Fin 128) (j : ℕ) : BitVec 1 :=
  if h : j < 8192 then B.mask (BitVec.ofNat 32 (j / 1024)) (chk_of_lt _ (by omega)) (ix2 r ⟨j % 1024, Nat.mod_lt _ (by omega)⟩) else 0#1
/-- The same, as a proposition. -/
abbrev Blk.inBall (r : Fin 128) (j : ℕ) : Prop := B.bit r j = 1#1

theorem Blk.bit_chunk (w : ℕ) (hw : w < 8) (r : Fin 128) (j : Fin 1024) :
    B.bit r (1024 * w + j.val) = B.mask (BitVec.ofNat 32 w) (chk_of_lt w hw) (ix2 r j) := by
  have h1 : (1024 * w + j.val) / 1024 = w := by omega
  have h2 : (⟨(1024 * w + j.val) % 1024, Nat.mod_lt _ (by omega)⟩ : Fin 1024) = j := Fin.ext (by show (1024 * w + j.val) % 1024 = j.val; omega)
  unfold Blk.bit
  rw [dif_pos (by omega), h2]
  simp only [h1]

/-- How many of the first `t` points of chunk `w` are in the ball of query `r`. -/
def Blk.within (w : ℕ) (r : Fin 128) (t : ℕ) : ℕ := Nat.count (B.inBall r) (1024 * w + t) - Nat.count (B.inBall r) (1024 * w)

theorem Blk.within_mono (w : ℕ) (r : Fin 128) : Monotone (B.within w r) := fun a b h => by
  have := Nat.count_monotone (B.inBall r) (show 1024 * w + a ≤ 1024 * w + b by omega)
  unfold Blk.within
  omega

theorem bit_cases (b : BitVec 1) : BitVec.setWidth 32 b = BitVec.ofNat 32 (if b = 1#1 then 1 else 0) := by revert b; decide

/-- The scan of chunk `w` starts from its indicator, -/
theorem Blk.win_mi (w : ℕ) (hw : w < 8) : Win (B.within w) (k0_pay319 B.q B.qq B.rr (chunk3 B.R3 (BitVec.ofNat 32 w) (chk_of_lt w hw))) 1 := by
  intro r j
  show BitVec.setWidth 32 (B.mask (BitVec.ofNat 32 w) (chk_of_lt w hw) (ix2 r j)) = _
  rw [← B.bit_chunk w hw r j, bit_cases]
  congr 1
  unfold Blk.within
  rw [show 1024 * w + (j.val + 1) = 1024 * w + j.val + 1 by omega, Nat.add_sub_cancel, Nat.count_succ]
  have := Nat.count_monotone (B.inBall r) (show 1024 * w ≤ 1024 * w + j.val by omega)
  simp only [Blk.inBall] at this ⊢
  by_cases hb : B.inBall r (1024 * w + j.val)
  · rw [if_pos (c := B.bit r (1024 * w + j.val) = 1#1) hb]; omega
  · rw [if_neg (c := B.bit r (1024 * w + j.val) = 1#1) hb]; omega

/-- and ends in the running count. -/
theorem Blk.win_incl (w : ℕ) (hw : w < 8) : Win (B.within w) (B.incl (BitVec.ofNat 32 w) (chk_of_lt w hw)) 1024 :=
  have hm := B.within_mono w
  have h1 := (B.win_mi w hw).step hm 1 1023 rfl slices_S128x1024_o0_0_S128x1023 concatenates_S128x1_S128x1023_S128x1024_d1
  have h2 := h1.step hm 2 1022 rfl slices_S128x1024_o0_0_S128x1022 concatenates_S128x2_S128x1022_S128x1024_d1
  have h3 := h2.step hm 4 1020 rfl slices_S128x1024_o0_0_S128x1020 concatenates_S128x4_S128x1020_S128x1024_d1
  have h4 := h3.step hm 8 1016 rfl slices_S128x1024_o0_0_S128x1016 concatenates_S128x8_S128x1016_S128x1024_d1
  have h5 := h4.step hm 16 1008 rfl slices_S128x1024_o0_0_S128x1008 concatenates_S128x16_S128x1008_S128x1024_d1
  have h6 := h5.step hm 32 992 rfl slices_S128x1024_o0_0_S128x992 concatenates_S128x32_S128x992_S128x1024_d1
  have h7 := h6.step hm 64 960 rfl slices_S128x1024_o0_0_S128x960 concatenates_S128x64_S128x960_S128x1024_d1
  have h8 := h7.step hm 128 896 rfl slices_S128x1024_o0_0_S128x896 concatenates_S128x128_S128x896_S128x1024_d1
  have h9 := h8.step hm 256 768 rfl slices_S128x1024_o0_0_S128x768 concatenates_S128x256_S128x768_S128x1024_d1
  h9.step hm 512 512 rfl slices_S128x1024_o0_0_S128x512 concatenates_S128x512_S128x512_S128x1024_d1

/-- The running count, element by element. -/
theorem Blk.incl_apply (w : ℕ) (hw : w < 8) (r : Fin 128) (j : Fin 1024) :
    B.incl (BitVec.ofNat 32 w) (chk_of_lt w hw) (ix2 r j) = BitVec.ofNat 32 (B.within w r (j.val + 1)) := by
  rw [B.win_incl w hw r j, show j.val + 1 - 1024 = 0 by omega]
  congr 1
  unfold Blk.within
  rw [Nat.add_zero (1024 * w)]; omega

theorem ofNat_sub_add (a b d : ℕ) (h : b ≤ a) : BitVec.ofNat 32 a - BitVec.ofNat 32 (a - b) + BitVec.ofNat 32 d = BitVec.ofNat 32 (b + d) := by
  have : BitVec.ofNat 32 a = BitVec.ofNat 32 b + BitVec.ofNat 32 (a - b) := by rw [← BitVec.ofNat_add]; congr 1; omega
  rw [this, BitVec.add_sub_cancel, ← BitVec.ofNat_add]

theorem pay323_apply (cnt : IVec S128x1 32) (mi a b : IVec S128x1024 32) (r : Fin 128) (j : Fin 1024) :
    k0_pay323 cnt mi a b (ix2 r j) = k0_pay322 a b (ix2 r j) - mi (ix2 r j) + cnt (ix2 r 0) := by
  unfold k0_pay323
  generalize k0_pay322 a b = x
  pointwise
  rfl

theorem pay3_apply (cnt : IVec S128x1 32) (x : IVec S128x1024 32) (r : Fin 128) :
    k0_pay3 cnt x (ix2 r 0) = cnt (ix2 r 0) + x (ix2 r ⟨1023, by omega⟩) := by
  unfold k0_pay3
  pointwise
  rfl

/-- The rank of each point of chunk `w` among all points in the ball. -/
theorem Blk.excl_apply (w : ℕ) (hw : w < 8) (cnt : IVec S128x1 32) (r : Fin 128) (j : Fin 1024)
    (hcnt : cnt (ix2 r 0) = BitVec.ofNat 32 (Nat.count (B.inBall r) (1024 * w))) :
    B.excl (BitVec.ofNat 32 w) (chk_of_lt w hw) cnt (ix2 r j) = BitVec.ofNat 32 (Nat.count (B.inBall r) (1024 * w + j.val)) := by
  have e : B.excl (BitVec.ofNat 32 w) (chk_of_lt w hw) cnt (ix2 r j)
      = B.incl (BitVec.ofNat 32 w) (chk_of_lt w hw) (ix2 r j) - k0_pay319 B.q B.qq B.rr (chunk3 B.R3 (BitVec.ofNat 32 w) (chk_of_lt w hw)) (ix2 r j)
        + cnt (ix2 r 0) := by
    exact pay323_apply _ _ _ _ r j
  rw [e, B.incl_apply w hw, B.win_mi w hw r j, hcnt, Nat.add_sub_cancel, ofNat_sub_add _ _ _ (B.within_mono w r (Nat.le_succ _))]
  congr 1
  have := Nat.count_monotone (B.inBall r) (show 1024 * w ≤ 1024 * w + j.val by omega)
  unfold Blk.within
  omega

/-- The count after chunk `w`. -/
theorem Blk.cnt_apply (w : ℕ) (hw : w < 8) (cnt : IVec S128x1 32) (r : Fin 128)
    (hcnt : cnt (ix2 r 0) = BitVec.ofNat 32 (Nat.count (B.inBall r) (1024 * w))) :
    k0_pay3 cnt (B.incl (BitVec.ofNat 32 w) (chk_of_lt w hw)) (ix2 r 0) = BitVec.ofNat 32 (Nat.count (B.inBall r) (1024 * (w + 1))) := by
  have e : k0_pay3 cnt (B.incl (BitVec.ofNat 32 w) (chk_of_lt w hw)) (ix2 r 0)
      = cnt (ix2 r 0) + B.incl (BitVec.ofNat 32 w) (chk_of_lt w hw) (ix2 r ⟨1023, by omega⟩) := by
    exact pay3_apply _ _ r
  rw [e, B.incl_apply w hw, hcnt, ← BitVec.ofNat_add]
  congr 1
  have := Nat.count_monotone (B.inBall r) (show 1024 * w ≤ 1024 * w + (1023 + 1) by omega)
  unfold Blk.within
  rw [show 1024 * (w + 1) = 1024 * w + (1023 + 1) by omega]
  exact Nat.add_sub_of_le this

end Cert.Proof.PI

end
-- ==== Proof.PI.Inv.lean ====
/-
  What the search loop leaves: after the trips it makes, each query's accumulators hold, slot by slot, the point of that rank in
  the query's ball, and its count is the number of points of the ball among the chunks gone through. The loop stops only after
  the eighth chunk or when every query has its 32 points, so the slots are those of the whole cloud.
-/
module

public import proofs.«01_k».proof.Proof.PI.Scan
public import proofs.«01_k».proof.Proof.PI.Body
public import Mathlib.Data.BitVec
public import Idealize.ShloMosaic.Lib.Pipeline.ValueKit

@[expose] public section

noncomputable section

namespace Cert.Proof.PI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

theorem ofNat_inj (e s : ℕ) (he : e < 2 ^ 32) (hs : s < 2 ^ 32) : BitVec.ofNat 32 e = BitVec.ofNat 32 s ↔ e = s := by
  constructor
  · intro h
    have := congrArg BitVec.toNat h
    rwa [BitVec.toNat_ofNat, BitVec.toNat_ofNat, Nat.mod_eq_of_lt he, Nat.mod_eq_of_lt hs] at this
  · rintro rfl; rfl

theorem and_one (m : BitVec 1) : IntOp.andi m 1#1 = 1#1 ↔ m = 1#1 := by revert m; decide
theorem and_zero (m : BitVec 1) : ¬ IntOp.andi m 0#1 = 1#1 := by revert m; decide

/-- A hit: in the ball, and of the rank asked for. -/
theorem hit_iff (m : BitVec 1) (e s : ℕ) (he : e < 2 ^ 32) (hs : s < 2 ^ 32) :
    IntOp.andi m (IntOp.cmpi .eq (BitVec.ofNat 32 e) (BitVec.ofNat 32 s)) = 1#1 ↔ m = 1#1 ∧ e = s := by
  have h := ofNat_inj e s he hs
  by_cases hes : e = s
  · subst hes
    have h1 : IntOp.cmpi .eq (BitVec.ofNat 32 e) (BitVec.ofNat 32 e) = 1#1 := by simp [IntOp.cmpi]
    rw [h1, and_one]
    exact ⟨fun h => ⟨h, rfl⟩, fun h => h.1⟩
  · have h1 : IntOp.cmpi .eq (BitVec.ofNat 32 e) (BitVec.ofNat 32 s) = 0#1 := by
      have : (BitVec.ofNat 32 e == BitVec.ofNat 32 s) = false := by
        rw [beq_eq_false_iff_ne]; exact fun hh => hes (h.1 hh)
      simp [IntOp.cmpi, this]
    rw [h1]
    exact ⟨fun hh => absurd hh (and_zero m), fun hh => absurd hh.2 hes⟩

/-- The row gathered for a query is the sum of the rows of its hits. -/
theorem gathered_apply (hit : IVec S128x1024 1) (fxc : FVec Ideal S1024x67 .f32) (r : Fin 128) (d : Fin 67) :
    gathered hit fxc (ix2 r d) = ∑ k : Fin 1024, if hit (ix2 r k) = 1#1 then fxc (ix2 k d) else 0 := by
  unfold gathered
  pointwise
  rfl

/-- The number gathered for a query is the sum of the numbers of its hits. -/
theorem idSum_apply (hit : IVec S128x1024 1) (jg : IVec S1x1024 32) (r : Fin 128) :
    idSum hit jg (ix1 r) = ∑ k : Fin 1024, if hit (ix2 r k) = 1#1 then jg (ix2 0 k) else 0 := by
  unfold idSum
  refine (congrFun (multiReductionI_eq_reduceFold .add _ 0#32 reduces_S128x1024_S128 rfl) (ix1 r)).trans ?_
  refine (reduceFold_add_eq_sum reduces_S128x1024_S128 0#32 _ (ix1 r)).trans ?_
  rw [Shape.Reduces.sum_filter_drop_single]
  refine (zero_add _).trans (Finset.sum_congr rfl fun k _ => ?_)
  have hl : reduces_S128x1024_S128.lift (ix1 r) k = ix2 r k := by
    refine funext fun a => Fin.ext ?_
    rw [Shape.Reduces.lift_val]
    fin_cases a <;> rfl
  rw [hl]
  pointwise
  rfl

theorem fold_min_le {ι : Type} [DecidableEq ι] (b : BitVec 32) (f : ι → BitVec 32) (S : Finset ι) :
    ∀ i ∈ S, (S.fold IntOp.minsi b f).toInt ≤ (f i).toInt := by
  induction S using Finset.induction_on with
  | empty => intro i hi; exact absurd hi (Finset.notMem_empty i)
  | insert a S ha ih =>
    intro i hi
    rw [Finset.fold_insert ha]
    have hmin : ∀ x y : BitVec 32, (IntOp.minsi x y).toInt ≤ x.toInt ∧ (IntOp.minsi x y).toInt ≤ y.toInt := fun x y => by
      unfold IntOp.minsi
      by_cases h : x.slt y = true
      · rw [if_pos h]; rw [BitVec.slt_iff_toInt_lt] at h; omega
      · rw [if_neg h]; rw [BitVec.slt_iff_toInt_lt] at h; omega
    rcases Finset.mem_insert.1 hi with rfl | hi
    · exact (hmin _ _).1
    · exact le_trans (hmin _ _).2 (ih i hi)

/-- The count the loop's test looks at is no more than any query's. -/
theorem pay2_le (cnt : IVec S128x1 32) (r : Fin 128) :
    (extractAt ![0, 0, 0] (k0_pay2 cnt) inpos_S1x1x1_p0_0_0).toInt ≤ (cnt (ix2 r 0)).toInt := by
  have e : extractAt ![0, 0, 0] (k0_pay2 cnt) inpos_S1x1x1_p0_0_0
      = Finset.fold IntOp.minsi 2147483647#32 (fun x : Fin 128 × Fin 1 => cnt (ix2 x.1 0)) Finset.univ := by
    unfold k0_pay2
    pointwise
  rw [e]
  exact fold_min_le _ (fun x : Fin 128 × Fin 1 => cnt (ix2 x.1 0)) _ (r, 0) (Finset.mem_univ _)

theorem slt_eight : ∀ w < 8, Scalar.cmpi .slt (BitVec.ofNat 32 w) 8#32 = 1#1 := by decide

/-- Where the test fails with chunks left, every query has 32 points. -/
theorem le_of_test (w : ℕ) (hw : w < 8) (cnt : IVec S128x1 32) (h : ¬ test (BitVec.ofNat 32 w) cnt = 1#1) (r : Fin 128) : 32 ≤ (cnt (ix2 r 0)).toInt := by
  refine le_trans ?_ (pay2_le cnt r)
  unfold test at h
  generalize extractAt ![0, 0, 0] (k0_pay2 cnt) inpos_S1x1x1_p0_0_0 = x at h ⊢
  have h8 : Scalar.cmpi .slt (BitVec.ofNat 32 w) 8#32 = 1#1 := slt_eight w hw
  rw [h8] at h
  have hx : ¬ x.slt 32#32 = true := by
    intro hx
    apply h
    have : Scalar.cmpi .slt x 32#32 = 1#1 := by show BitVec.ofBool (x.slt 32#32) = 1#1; rw [hx]; rfl
    rw [this]; rfl
  rw [BitVec.slt_iff_toInt_lt] at hx
  have : (32#32 : BitVec 32).toInt = 32 := by decide
  omega

variable (B : Blk)

/-- Coordinate or feature `d` of point `j`, read off the block. -/
def Blk.row (d : Fin 67) (j : ℕ) : Ideal .f32 :=
  if h : j < 8192 then B.R4 (ix4 (0 : Fin 1) (⟨j / 1024, by omega⟩ : Fin 8) (⟨j % 1024, Nat.mod_lt _ (by omega)⟩ : Fin 1024) d) else 0

theorem off2 : ∀ w < 8, k0_off2 (BitVec.ofNat 32 w) = ![0, w, 0, 0] := by decide
theorem off1 : ∀ w < 8, k0_off1 (BitVec.ofNat 32 w) = ![0, w, 0, 0] := by decide

theorem chunk4_apply (R4 : Vec Ideal S1x8x1024x67 .f32) (w : ℕ) (hw : w < 8) (k : Fin 1024) (d : Fin 67) :
    chunk4 R4 (BitVec.ofNat 32 w) (chk_of_lt w hw) (ix4 0 0 k d) = R4 (ix4 (0 : Fin 1) (⟨w, hw⟩ : Fin 8) k d) := by
  unfold chunk4
  refine congrArg R4 (funext fun a => Fin.ext ?_)
  refine (congrArg (· + 1 * (ix4 (0 : Fin 1) (0 : Fin 1) k d a).val) (congrFun (off2 w hw) a)).trans ?_
  fin_cases a
  · rfl
  · exact (Nat.add_zero _)
  · show 0 + 1 * k.val = k.val; omega
  · show 0 + 1 * d.val = d.val; omega

theorem chunk3_apply (R3 : Vec Ideal S1x8x3x1024 .f32) (w : ℕ) (hw : w < 8) (a : Fin 3) (k : Fin 1024) :
    chunk3 R3 (BitVec.ofNat 32 w) (chk_of_lt w hw) (ix4 0 0 a k) = R3 (ix4 (0 : Fin 1) (⟨w, hw⟩ : Fin 8) a k) := by
  unfold chunk3
  refine congrArg R3 (funext fun b => Fin.ext ?_)
  refine (congrArg (· + 1 * (ix4 (0 : Fin 1) (0 : Fin 1) a k b).val) (congrFun (off1 w hw) b)).trans ?_
  fin_cases b
  · rfl
  · exact (Nat.add_zero _)
  · show 0 + 1 * a.val = a.val; omega
  · show 0 + 1 * k.val = k.val; omega

theorem Blk.fx_apply (w : ℕ) (hw : w < 8) (k : Fin 1024) (d : Fin 67) :
    B.fx (BitVec.ofNat 32 w) (chk_of_lt w hw) (ix2 k d) = B.row d (1024 * w + k.val) := by
  have h1 : (1024 * w + k.val) / 1024 = w := by omega
  have h2 : (⟨(1024 * w + k.val) % 1024, Nat.mod_lt _ (by omega)⟩ : Fin 1024) = k := Fin.ext (by show (1024 * w + k.val) % 1024 = k.val; omega)
  have e : B.fx (BitVec.ofNat 32 w) (chk_of_lt w hw) (ix2 k d) = chunk4 B.R4 (BitVec.ofNat 32 w) (chk_of_lt w hw) (ix4 0 0 k d) := by
    unfold Blk.fx k0_pay317
    generalize chunk4 B.R4 (BitVec.ofNat 32 w) (chk_of_lt w hw) = x
    pointwise
  rw [e, chunk4_apply _ w hw]
  unfold Blk.row
  rw [dif_pos (by omega), h2]
  simp only [h1]

theorem Blk.jg_apply (hio : B.io = iota .tc S1x1024 32 [1] iota_S1x1024_d1_w32) (w : ℕ) (hw : w < 8) (k : Fin 1024) :
    B.jg (BitVec.ofNat 32 w) (ix2 0 k) = BitVec.ofNat 32 (1024 * w + k.val) := by
  unfold Blk.jg k0_pay324
  rw [hio]
  have hm : Scalar.muli (BitVec.ofNat 32 w) 1024#32 = BitVec.ofNat 32 (1024 * w) := by revert w; decide
  rw [hm]
  have : ∀ x : BitVec 32, addi (iota .tc S1x1024 32 [1] iota_S1x1024_d1_w32) (broadcast S1x1024 x) (ix2 0 k) = BitVec.ofNat 32 k.val + x := fun x => by
    pointwise
    rfl
  refine (this _).trans ?_
  rw [← BitVec.ofNat_add, Nat.add_comm]

/-- What holds of the state after `c` chunks. -/
structure Blk.Inv (c : ℕ) (s : St) : Prop where
  /-- the counts -/
  cnt : ∀ r : Fin 128, s.cnt (ix2 r 0) = BitVec.ofNat 32 (Nat.count (B.inBall r) (1024 * c))
  /-- the numbers -/
  ix : ∀ (r : Fin 128) (n : Fin 32), s.ix (ix2 r n) = heldAt (B.inBall r) (BitVec.ofNat 32) (1024 * c) n.val
  /-- the rows -/
  nf : ∀ (r : Fin 128) (n : Fin 32) (d : Fin 67), s.nf (ix3 r n d) = heldAt (M := EReal) (B.inBall r) (B.row d) (1024 * c) n.val

theorem Blk.inv_zero : B.Inv 0 st₀ where
  cnt r := by rw [Nat.mul_zero, Nat.count_zero]; rfl
  ix r n := by rw [Nat.mul_zero, heldAt_zero]; rfl
  nf r n d := by
    rw [Nat.mul_zero, heldAt_zero]
    show k0_pay12 (F := Ideal) (ix3 r n d) = 0
    unfold k0_pay12
    pointwise

theorem count_lt (p : ℕ → Prop) [DecidablePred p] (b : ℕ) (hb : b ≤ 8192) : Nat.count p b < 2 ^ 32 :=
  lt_of_le_of_lt (Nat.count_le p) (by omega)

/-- The hits of rank `n` in chunk `w`. -/
theorem Blk.hit (w : ℕ) (hw : w < 8) (s : St) (hs : B.Inv w s) (r : Fin 128) (n : Fin 32) (k : Fin 1024) :
    hitAt (B.mask (BitVec.ofNat 32 w) (chk_of_lt w hw)) (B.excl (BitVec.ofNat 32 w) (chk_of_lt w hw) s.cnt) (BitVec.ofNat 32 n.val) (ix2 r k) = 1#1
      ↔ B.inBall r (1024 * w + k.val) ∧ Nat.count (B.inBall r) (1024 * w + k.val) = n.val := by
  have e : hitAt (B.mask (BitVec.ofNat 32 w) (chk_of_lt w hw)) (B.excl (BitVec.ofNat 32 w) (chk_of_lt w hw) s.cnt) (BitVec.ofNat 32 n.val) (ix2 r k)
      = IntOp.andi (B.bit r (1024 * w + k.val)) (IntOp.cmpi .eq (BitVec.ofNat 32 (Nat.count (B.inBall r) (1024 * w + k.val))) (BitVec.ofNat 32 n.val)) := by
    rw [← B.excl_apply w hw s.cnt r k (hs.cnt r), B.bit_chunk w hw r k]
    rfl
  rw [e]
  exact hit_iff _ _ _ (count_lt _ _ (by omega)) (by have := n.isLt; omega)

theorem Blk.inv_step (hio : B.io = iota .tc S1x1024 32 [1] iota_S1x1024_d1_w32) (w : ℕ) (hw : w < 8) (s : St) (hs : B.Inv w s) :
    B.Inv (w + 1) (B.step (BitVec.ofNat 32 w) (chk_of_lt w hw) s) where
  cnt r := B.cnt_apply w hw s.cnt r (hs.cnt r)
  ix r n := by
    rw [show 1024 * (w + 1) = 1024 * w + 1024 by omega, ← heldAt_add, ← hs.ix r n]
    show s.ix (ix2 r n) + idSum _ _ (ix1 r) = _
    rw [idSum_apply]
    refine congrArg (s.ix (ix2 r n) + ·) (Finset.sum_congr rfl fun k _ => ?_)
    rw [B.jg_apply hio w hw k]
    exact if_congr (B.hit w hw s hs r n k) rfl rfl
  nf r n d := by
    rw [show 1024 * (w + 1) = 1024 * w + 1024 by omega, ← heldAt_add, ← hs.nf r n d]
    show (s.nf (ix3 r n d) : EReal) + gathered _ _ (ix2 r d) = _
    rw [gathered_apply]
    refine congrArg (fun x : EReal => s.nf (ix3 r n d) + x) (Finset.sum_congr rfl fun k _ => ?_)
    rw [B.fx_apply w hw k d]
    exact if_congr (B.hit w hw s hs r n k) rfl rfl

theorem Blk.inv_st (hio : B.io = iota .tc S1x1024 32 [1] iota_S1x1024_d1_w32) (w : ℕ) (hw : w ≤ 8) : B.Inv w (B.st st₀ w) := by
  induction w with
  | zero => exact B.inv_zero
  | succ w ih => rw [B.st_succ st₀ w (by omega)]; exact B.inv_step hio w (by omega) _ (ih (by omega))

/-- The loop stops after the last trip it may make, or where its test fails. -/
theorem Blk.stop_spec (s₀ : St) (k j : ℕ) : B.stop s₀ k j ≤ j + k
    ∧ (B.stop s₀ k j = j + k ∨ ¬ test (BitVec.ofNat 32 (B.stop s₀ k j)) (B.st s₀ (B.stop s₀ k j)).cnt = 1#1) := by
  induction k generalizing j with
  | zero => exact ⟨le_refl _, .inl rfl⟩
  | succ k ih =>
    have e : B.stop s₀ (k + 1) j = if test (BitVec.ofNat 32 j) (B.st s₀ j).cnt = 1#1 then B.stop s₀ k (j + 1) else j := rfl
    by_cases h : test (BitVec.ofNat 32 j) (B.st s₀ j).cnt = 1#1
    · rw [if_pos h] at e
      rw [e, show j + (k + 1) = j + 1 + k by omega]
      exact ih (j + 1)
    · rw [if_neg h] at e
      rw [e]
      exact ⟨by omega, .inr h⟩

/-- How many points of the cloud are in the ball of query `r`. -/
abbrev Blk.total (r : Fin 128) : ℕ := Nat.count (B.inBall r) 8192

/-- What the loop ends in. -/
theorem Blk.final (hio : B.io = iota .tc S1x1024 32 [1] iota_S1x1024_d1_w32) (s : St) (hs : s = B.st st₀ (B.stop st₀ 8 0)) (r : Fin 128) :
    (∃ C, s.cnt (ix2 r 0) = BitVec.ofNat 32 C ∧ C ≤ B.total r ∧ (C = B.total r ∨ 32 ≤ C))
      ∧ (∀ n : Fin 32, s.ix (ix2 r n) = heldAt (B.inBall r) (BitVec.ofNat 32) 8192 n.val)
      ∧ ∀ (n : Fin 32) (d : Fin 67), s.nf (ix3 r n d) = heldAt (M := EReal) (B.inBall r) (B.row d) 8192 n.val := by
  obtain ⟨hle, hor⟩ := B.stop_spec st₀ 8 0
  subst hs
  generalize B.stop st₀ 8 0 = J at hle hor
  have hJ := B.inv_st hio J (by omega)
  rcases Nat.lt_or_ge J 8 with h8 | h8
  · have ht := hor.resolve_left (by omega)
    have h32 := le_of_test J h8 _ ht r
    rw [hJ.cnt r] at h32
    have hc : 32 ≤ Nat.count (B.inBall r) (1024 * J) := by
      have hl : Nat.count (B.inBall r) (1024 * J) ≤ 8192 := le_trans (Nat.count_le _) (by omega)
      generalize Nat.count (B.inBall r) (1024 * J) = C at h32 hl
      rw [BitVec.toInt_ofNat'] at h32
      simp only [Int.bmod] at h32
      omega
    refine ⟨⟨_, hJ.cnt r, Nat.count_monotone _ (by omega), .inr hc⟩, fun n => ?_, fun n d => ?_⟩
    · rw [hJ.ix r n]; exact heldAt_of_lt _ _ _ _ _ (lt_of_lt_of_le n.isLt hc) (by omega)
    · rw [hJ.nf r n d]; exact heldAt_of_lt _ _ _ _ _ (lt_of_lt_of_le n.isLt hc) (by omega)
  · obtain rfl : J = 8 := by omega
    exact ⟨⟨_, hJ.cnt r, le_refl _, .inl rfl⟩, fun n => hJ.ix r n, fun n d => hJ.nf r n d⟩

end Cert.Proof.PI

end
-- ==== Proof.PI.Slot.lean ====
/-
  The slots of a query, from its ball: slot `s` takes the point of rank `s`, or the first point where there are not that many.
-/
module

public import proofs.«01_k».proof.Proof.PI.Count
public import Idealize.ShloMosaic.Lib.ValueIdx
public import Idealize.ShloMosaic.Lib.Pointwise
public import Idealize.ShloMosaic.Lib.WordCmp

@[expose] public section

noncomputable section

namespace Cert.Proof.PI

open Idealize.ShloMosaic

theorem toInt_small (a : ℕ) (h : a < 2 ^ 31) : (BitVec.ofNat 32 a).toInt = a := by
  rw [BitVec.toInt_ofNat']
  simp only [Int.bmod]
  omega

/-- Comparisons of small numbers. -/
theorem slt_small (a b : ℕ) (ha : a < 2 ^ 31) (hb : b < 2 ^ 31) : (BitVec.ofNat 32 a).slt (BitVec.ofNat 32 b) = decide (a < b) := by
  rw [Bool.eq_iff_iff, BitVec.slt_iff_toInt_lt, toInt_small a ha, toInt_small b hb, decide_eq_true_iff]
  omega
theorem sle_small (a b : ℕ) (ha : a < 2 ^ 31) (hb : b < 2 ^ 31) : (BitVec.ofNat 32 a).sle (BitVec.ofNat 32 b) = decide (a ≤ b) := by
  rw [Bool.eq_iff_iff, BitVec.sle_iff_toInt_le, toInt_small a ha, toInt_small b hb, decide_eq_true_iff]
  omega
theorem lt_small (a b : ℕ) (ha : a < 2 ^ 31) (hb : b < 2 ^ 31) : IntOp.cmpi .slt (BitVec.ofNat 32 a) (BitVec.ofNat 32 b) = BitVec.ofBool (decide (a < b)) := by
  rw [← slt_small a b ha hb]; rfl
theorem gt_small (a b : ℕ) (ha : a < 2 ^ 31) (hb : b < 2 ^ 31) : IntOp.cmpi .sgt (BitVec.ofNat 32 a) (BitVec.ofNat 32 b) = BitVec.ofBool (decide (b < a)) := by
  rw [← slt_small b a hb ha]; rfl
theorem ge_small (a b : ℕ) (ha : a < 2 ^ 31) (hb : b < 2 ^ 31) : IntOp.cmpi .sge (BitVec.ofNat 32 a) (BitVec.ofNat 32 b) = BitVec.ofBool (decide (b ≤ a)) := by
  rw [← sle_small b a hb ha]; rfl
theorem le_small (a b : ℕ) (ha : a < 2 ^ 31) (hb : b < 2 ^ 31) : IntOp.cmpi .sle (BitVec.ofNat 32 a) (BitVec.ofNat 32 b) = BitVec.ofBool (decide (a ≤ b)) := by
  rw [← sle_small a b ha hb]; rfl
theorem eq_small (a b : ℕ) (ha : a < 2 ^ 31) (hb : b < 2 ^ 31) : IntOp.cmpi .eq (BitVec.ofNat 32 a) (BitVec.ofNat 32 b) = BitVec.ofBool (decide (a = b)) := by
  have h : BitVec.ofNat 32 a = BitVec.ofNat 32 b ↔ a = b := by
    constructor
    · intro h
      have := congrArg BitVec.toInt h
      rw [toInt_small a ha, toInt_small b hb] at this
      omega
    · rintro rfl; rfl
  show BitVec.ofBool (BitVec.ofNat 32 a == BitVec.ofNat 32 b) = _
  congr 1
  rw [Bool.eq_iff_iff, beq_iff_eq, decide_eq_true_iff, h]
theorem max_small (a : ℕ) (ha : a < 2 ^ 31) : IntOp.maxsi (BitVec.ofNat 32 a) 1#32 = BitVec.ofNat 32 (max a 1) := by
  unfold IntOp.maxsi
  rw [show (1#32 : BitVec 32) = BitVec.ofNat 32 1 from rfl]
  simp only [slt_small a 1 ha (by omega), slt_small 1 a (by omega) ha, decide_eq_true_iff]
  split <;> congr 1 <;> omega
/-- A choice by a decided bit. -/
theorem select_bool {α : Type} (q : Prop) [Decidable q] (a b : α) : Scalar.select (BitVec.ofBool (decide q)) a b = if q then a else b := by
  unfold Scalar.select
  by_cases h : q
  · rw [if_pos h, decide_eq_true h]; rfl
  · rw [if_neg h, decide_eq_false h]; rfl

variable (p : ℕ → Prop) [DecidablePred p]

/-- The point slot `s` takes. -/
def slotNo (s : ℕ) : ℕ := if s < Nat.count p 8192 then nthOf p s else nthOf p 0

theorem slotNo_lt (s : ℕ) (h : Nat.count p 8192 ≠ 0) : slotNo p s < 8192 := by
  unfold slotNo
  split
  · exact (nthOf_lt p 8192 s ‹_›).1
  · exact (nthOf_lt p 8192 0 (by omega)).1

/-- What a slot holds after the search, from what is known of the count at its end. -/
theorem pick_eq {M : Type} [AddCommMonoid M] (val : ℕ → M) (C n : ℕ) (hC : C ≤ Nat.count p 8192) (h : C = Nat.count p 8192 ∨ 32 ≤ C) (hn : n < 32) :
    Scalar.select (IntOp.cmpi .sgt (IntOp.maxsi (BitVec.ofNat 32 C) 1#32) (BitVec.ofNat 32 n)) (heldAt p val 8192 n) (heldAt p val 8192 0)
      = if Nat.count p 8192 = 0 then 0 else val (slotNo p n) := by
  have hT : Nat.count p 8192 ≤ 8192 := Nat.count_le p
  rw [max_small C (by omega), gt_small _ _ (by omega) (by omega), select_bool]
  unfold heldAt slotNo
  by_cases h0 : Nat.count p 8192 = 0
  · rw [if_pos h0, if_neg (c := n < Nat.count p 8192) (by omega), if_neg (c := 0 < Nat.count p 8192) (by omega), ite_self]
  · rw [if_neg h0, if_pos (c := 0 < Nat.count p 8192) (by omega)]
    by_cases h1 : n < Nat.count p 8192
    · rw [if_pos (c := n < max C 1) (by omega)]; simp only [if_pos h1]
    · rw [if_neg (c := n < max C 1) (by omega)]; simp only [if_neg h1]

theorem empty_eq (C : ℕ) (hC : C ≤ Nat.count p 8192) (h : C = Nat.count p 8192 ∨ 32 ≤ C) :
    IntOp.cmpi .eq (BitVec.ofNat 32 C) 0#32 = BitVec.ofBool (decide (Nat.count p 8192 = 0)) := by
  have hT : Nat.count p 8192 ≤ 8192 := Nat.count_le p
  rw [show (0#32 : BitVec 32) = BitVec.ofNat 32 0 from rfl, eq_small C 0 (by omega) (by omega)]
  have hi : C = 0 ↔ Nat.count p 8192 = 0 := by omega
  exact congrArg BitVec.ofBool (decide_eq_decide.2 hi)

/-- Whether a point at `x` is in the ball of radius `ρ` about a query at `q`, as the squared distance is computed. -/
def bitOf (q x : Fin 3 → EReal) (ρ : EReal) : BitVec 1 :=
  BitVec.ofBool (decide ((∑ a, q a * q a) + (∑ a, x a * x a) - Ideal.ofBits .f32 0x40000000#32 * (∑ a, q a * x a) < ρ * ρ))

/-- A coordinate relative to the query's, zero where nothing was found. -/
def relAt (row : Fin 67 → ℕ → EReal) (q : Fin 3 → EReal) (s : ℕ) (a : Fin 3) : EReal :=
  if Nat.count p 8192 = 0 then 0 else row ⟨a.val, by omega⟩ (slotNo p s) - q a
/-- What slot `s` of the features ends as, -/
def nfSpec (row : Fin 67 → ℕ → EReal) (q : Fin 3 → EReal) (s : ℕ) (d : Fin 67) : EReal :=
  if h : d.val < 3 then relAt p row q s ⟨d.val, h⟩ else if Nat.count p 8192 = 0 then 0 else row d (slotNo p s)
/-- of the weights, -/
def wSpec (row : Fin 67 → ℕ → EReal) (q : Fin 3 → EReal) (ra rt : EReal) (s : ℕ) : EReal :=
  1 - Ideal.logistic (Ideal.div (Ideal.sqrt (∑ a, relAt p row q s a * relAt p row q s a) - ra) rt)
/-- and of the numbers. -/
def ixSpec (s : ℕ) : BitVec 32 := if Nat.count p 8192 = 0 then 0 else BitVec.ofNat 32 (slotNo p s)

end Cert.Proof.PI

end
-- ==== Proof.PI.EpiVal.lean ====
/-
  What the body stores into the results, element by element, from what the search loop leaves.
-/
module

public import proofs.«01_k».proof.Proof.PI.Inv
public import proofs.«01_k».proof.Proof.PI.Slot

@[expose] public section

noncomputable section

namespace Cert.Proof.PI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

theorem selOf_apply (cnt : IVec S128x1 32) (s0 : FVec Ideal S128x67 .f32) (sn : Vec Ideal S128x1x67 .f32) (s : BitVec 32) (r : Fin 128) (d : Fin 67) :
    selOf cnt s0 sn s (ix2 r d) = Scalar.select (IntOp.cmpi .sgt (IntOp.maxsi (cnt (ix2 r 0)) 1#32) s) (sn (ix3 r 0 d)) (s0 (ix2 r d)) := by
  unfold selOf
  pointwise

theorem relOf_apply (emp : IVec S128x1 1) (k : ℕ) (hk : S128x67.Slices ![0, k] S128x1) (hk' : k < 67) (row : FVec Ideal S128x67 .f32) (q : FVec Ideal S128x1 .f32) (r : Fin 128) :
    relOf emp k hk row q (ix2 r 0) = Scalar.select (emp (ix2 r 0)) (0 : EReal) ((row (ix2 r ⟨k, hk'⟩) : EReal) - q (ix2 r 0)) := by
  unfold relOf
  pointwise

theorem nfOf_apply (row : FVec Ideal S128x67 .f32) (gx gy gz : FVec Ideal S128x1 .f32) (r : Fin 128) (d : Fin 67) :
    nfOf row gx gy gz (ix3 r 0 d) = if d.val = 0 then gx (ix2 r 0) else if d.val = 1 then gy (ix2 r 0) else if d.val = 2 then gz (ix2 r 0) else row (ix2 r d) := by
  unfold nfOf
  pointwise
  have one : ∀ (a : ℕ) (h : a < 1), (⟨a, h⟩ : Fin 1) = 0 := fun a h => Subsingleton.elim _ _
  by_cases h0 : d.val = 0
  · rw [dif_pos (by omega), if_pos h0, one]
  rw [dif_neg (by omega), if_neg h0]
  by_cases h1 : d.val = 1
  · rw [dif_pos (by omega), if_pos h1, one]
  rw [dif_neg (by omega), if_neg h1]
  by_cases h2 : d.val = 2
  · rw [dif_pos (by omega), if_pos h2, one]
  rw [dif_neg (by omega), if_neg h2]
  exact congrArg (fun x => row (ix2 r x)) (Fin.ext (by show 3 + (d.val - 1 - 1 - 1) = d.val; omega))

theorem wOf_apply (rt : Ideal .f32) (ra gx gy gz : FVec Ideal S128x1 .f32) (r : Fin 128) : wOf rt ra gx gy gz (ix2 r 0)
    = (1 : EReal) - Ideal.logistic (Ideal.div (Ideal.sqrt ((gx (ix2 r 0) : EReal) * gx (ix2 r 0) + (gy (ix2 r 0) : EReal) * gy (ix2 r 0) + (gz (ix2 r 0) : EReal) * gz (ix2 r 0)) - ra (ix2 r 0)) rt) := by
  unfold wOf
  pointwise

theorem ixOf_apply (cnt : IVec S128x1 32) (x0 : IVec S128 32) (xn : IVec S128x1 32) (s : BitVec 32) (r : Fin 128) :
    ixOf cnt x0 xn s (ix2 r 0) = Scalar.select (IntOp.cmpi .sgt (IntOp.maxsi (cnt (ix2 r 0)) 1#32) s) (xn (ix2 r 0)) (x0 (ix1 r)) := by
  unfold ixOf
  pointwise

/-- What the epilogue finds for query `r`: the loop's state, and the query's coordinates, its radius and the temperature. -/
structure Found (p : ℕ → Prop) [DecidablePred p] (row : Fin 67 → ℕ → EReal) (q : Fin 3 → EReal) (ra rt : EReal) (e : Epi) (r : Fin 128) : Prop where
  cnt : ∃ C, e.cnt (ix2 r 0) = BitVec.ofNat 32 C ∧ C ≤ Nat.count p 8192 ∧ (C = Nat.count p 8192 ∨ 32 ≤ C)
  ix : ∀ n : Fin 32, e.X (ix2 r n) = heldAt p (BitVec.ofNat 32) 8192 n.val
  nf : ∀ (n : Fin 32) (d : Fin 67), e.N (ix3 r n d) = heldAt (M := EReal) p (row d) 8192 n.val
  qx : e.qx (ix2 r 0) = q 0
  qy : e.qy (ix2 r 0) = q 1
  qz : e.qz (ix2 r 0) = q 2
  ra : e.r (ix2 r 0) = ra
  rt : e.rt = rt

section Results

variable {p : ℕ → Prop} [DecidablePred p] {row : Fin 67 → ℕ → EReal} {q : Fin 3 → EReal} {ra rt : EReal} {e : Epi} {r : Fin 128}
  (h : Found p row q ra rt e r)
include h

theorem Found.sel (n : Fin 32) (d : Fin 67) : e.sel n (ix2 r d) = if Nat.count p 8192 = 0 then (0 : EReal) else row d (slotNo p n.val) := by
  obtain ⟨C, hC, hle, hor⟩ := h.cnt
  unfold Epi.sel
  rw [selOf_apply, hC, Epi.slotN_apply]
  have e0 : shapeCast S128x67 (e.slotN 0) shapeCasts_S128x1x67_S128x67 (ix2 r d) = e.slotN 0 (ix3 r 0 d) := by
    generalize e.slotN 0 = x
    pointwise
  rw [e0, Epi.slotN_apply]
  refine (congrArg₂ (Scalar.select _) (h.nf n d) (h.nf 0 d)).trans ?_
  exact pick_eq p (row d) C n.val hle hor n.isLt

theorem Found.ixOut (n : Fin 32) : e.ixOut (ix2 r n) = ixSpec p n.val := by
  obtain ⟨C, hC, hle, hor⟩ := h.cnt
  show e.ixPay n (ix2 r 0) = _
  unfold Epi.ixPay
  refine (ixOf_apply _ _ _ _ r).trans ?_
  rw [hC, Epi.slotX_apply]
  have e0 : shapeCast S128 (e.slotX 0) shapeCasts_S128x1_S128 (ix1 r) = e.slotX 0 (ix2 r 0) := by
    generalize e.slotX 0 = x
    pointwise
  rw [e0, Epi.slotX_apply]
  refine (congrArg₂ (Scalar.select _) (h.ix n) (h.ix 0)).trans ?_
  exact pick_eq p (BitVec.ofNat 32) C n.val hle hor n.isLt

theorem Found.rel (n : Fin 32) (a : Fin 3) (hk : S128x67.Slices ![0, a.val] S128x1) (qa : FVec Ideal S128x1 .f32) (hq : qa (ix2 r 0) = q a) :
    relOf e.empty a.val hk (e.sel n) qa (ix2 r 0) = relAt p row q n.val a := by
  obtain ⟨C, hC, hle, hor⟩ := h.cnt
  rw [relOf_apply _ _ hk (by omega), h.sel, hq]
  have e0 : e.empty (ix2 r 0) = BitVec.ofBool (decide (Nat.count p 8192 = 0)) := by
    rw [← empty_eq p C hle hor, ← hC]; rfl
  rw [e0, select_bool]
  unfold relAt
  by_cases h0 : Nat.count p 8192 = 0
  · rw [if_pos h0, if_pos h0]
  · rw [if_neg h0, if_neg h0, if_neg h0]

theorem Found.nfOut (n : Fin 32) (d : Fin 67) : e.nfOut (ix3 r n d) = nfSpec p row q n.val d := by
  have hx := h.rel n 0 slices_S128x67_o0_0_S128x1 e.qx h.qx
  have hy := h.rel n 1 slices_S128x67_o0_1_S128x1 e.qy h.qy
  have hz := h.rel n 2 slices_S128x67_o0_2_S128x1 e.qz h.qz
  unfold Epi.nfOut Epi.nfPay
  refine (nfOf_apply _ _ _ _ r d).trans ?_
  unfold nfSpec
  by_cases h0 : d.val = 0
  · rw [if_pos h0, dif_pos (by omega)]
    exact hx.trans (congrArg (relAt p row q n.val) (Fin.ext h0.symm))
  rw [if_neg h0]
  by_cases h1 : d.val = 1
  · rw [if_pos h1, dif_pos (by omega)]
    exact hy.trans (congrArg (relAt p row q n.val) (Fin.ext h1.symm))
  rw [if_neg h1]
  by_cases h2 : d.val = 2
  · rw [if_pos h2, dif_pos (by omega)]
    exact hz.trans (congrArg (relAt p row q n.val) (Fin.ext h2.symm))
  rw [if_neg h2, dif_neg (by omega)]
  exact h.sel n d

theorem Found.wOut (n : Fin 32) : e.wOut (ix2 r n) = wSpec p row q ra rt n.val := by
  have hx := h.rel n 0 slices_S128x67_o0_0_S128x1 e.qx h.qx
  have hy := h.rel n 1 slices_S128x67_o0_1_S128x1 e.qy h.qy
  have hz := h.rel n 2 slices_S128x67_o0_2_S128x1 e.qz h.qz
  unfold Epi.wOut Epi.wPay
  refine (wOf_apply _ _ _ _ _ r).trans ?_
  unfold wSpec Epi.gx Epi.gy Epi.gz
  rw [Fin.sum_univ_three, ← hx, ← hy, ← hz, h.ra, h.rt]
  rfl

end Results

end Cert.Proof.PI

end
-- ==== Proof.PI.Goal.lean ====
/-
  The results, as functions of the arguments: what both programs compute.
-/
module

public import proofs.«01_k».proof.Proof.PI.Slot

@[expose] public section

noncomputable section

namespace Cert.Proof.PI

open Idealize.ShloMosaic

/-- Point `j` of cloud `b`, of an array over all points; zero beyond the cloud. -/
def ptX {k : ℕ} (X : Fin 32768 → Fin k → EReal) (b : Fin 4) (j : ℕ) (a : Fin k) : EReal :=
  if h : j < 8192 then X ⟨8192 * b.val + j, by omega⟩ a else 0
/-- Whether point `j` of cloud `b` is in the ball about `q`. -/
def ball (P : Fin 32768 → Fin 3 → EReal) (b : Fin 4) (q : Fin 3 → EReal) (ρ : EReal) (j : ℕ) : BitVec 1 :=
  if j < 8192 then bitOf q (ptX P b j) ρ else 0#1
/-- The coordinates and the features of a point, in one row. -/
def rows (P : Fin 32768 → Fin 3 → EReal) (F : Fin 32768 → Fin 64 → EReal) (b : Fin 4) (d : Fin 67) (j : ℕ) : EReal :=
  if h : d.val < 3 then ptX P b j ⟨d.val, h⟩ else ptX F b j ⟨d.val - 3, by omega⟩

/-- The arguments. -/
@[ext] structure Args where
  /-- the points -/
  P : Fin 32768 → Fin 3 → EReal
  /-- the queries -/
  Q : Fin 8192 → Fin 3 → EReal
  /-- the radii -/
  ra : Fin 8192 → EReal
  /-- the features -/
  F : Fin 32768 → Fin 64 → EReal
  /-- the temperature -/
  rt : EReal

namespace Args
variable (A : Args)

/-- The cloud of a query. -/
def cloud (R : Fin 8192) : Fin 4 := ⟨R.val / 2048, by omega⟩
/-- The ball of a query: its radius is widened by five temperatures. -/
def mem (R : Fin 8192) (j : ℕ) : BitVec 1 := ball A.P (cloud R) (A.Q R) (A.ra R + A.rt * Ideal.ofBits .f32 0x40A00000#32) j
/-- The rows a query chooses from. -/
def row (R : Fin 8192) : Fin 67 → ℕ → EReal := rows A.P A.F (cloud R)
/-- The features found, -/
def nf (R : Fin 8192) (n : ℕ) (d : Fin 67) : EReal := nfSpec (fun j => A.mem R j = 1#1) (A.row R) (A.Q R) n d
/-- their weights, -/
def w (R : Fin 8192) (n : ℕ) : EReal := wSpec (fun j => A.mem R j = 1#1) (A.row R) (A.Q R) (A.ra R) A.rt n
/-- and their numbers. -/
def ix (R : Fin 8192) (n : ℕ) : BitVec 32 := ixSpec (fun j => A.mem R j = 1#1) n
end Args

end Cert.Proof.PI

end
-- ==== Proof.PI.Ball.lean ====
/-
  What the body finds at a grid point, over the arguments.
-/
module

public import proofs.«01_k».proof.Proof.PI.Blocks
public import proofs.«01_k».proof.Proof.PI.EpiVal
public import proofs.«01_k».proof.Proof.PI.Goal

@[expose] public section

noncomputable section

namespace Cert.Proof.PI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

theorem mask_apply (q : FVec Ideal S128x3 .f32) (qq rr : FVec Ideal S128x1 .f32) (x : Vec Ideal S1x1x3x1024 .f32) (r : Fin 128) (k : Fin 1024) :
    k0_pay318 q qq rr x (ix2 r k) = BitVec.ofBool (decide ((qq (ix2 r 0) : EReal)
      + (∑ a : Fin 3, (x (ix4 (0 : Fin 1) (0 : Fin 1) a k) : EReal) * x (ix4 (0 : Fin 1) (0 : Fin 1) a k))
      - Ideal.ofBits .f32 0x40000000#32 * (∑ a : Fin 3, (q (ix2 r a) : EReal) * x (ix4 (0 : Fin 1) (0 : Fin 1) a k)) < rr (ix2 r 0))) := by
  unfold k0_pay318
  pointwise
  simp only [Fin.sum_univ_three]

/-- The mask is the ball's indicator, of what its operands hold. -/
theorem mask_eq (q : FVec Ideal S128x3 .f32) (qq rr : FVec Ideal S128x1 .f32) (x : Vec Ideal S1x1x3x1024 .f32) (r : Fin 128) (k : Fin 1024)
    (q' x' : Fin 3 → EReal) (ρ : EReal) (hq : ∀ a, q (ix2 r a) = q' a) (hx : ∀ a : Fin 3, x (ix4 (0 : Fin 1) (0 : Fin 1) a k) = x' a)
    (hqq : qq (ix2 r 0) = ∑ a, q' a * q' a) (hrr : rr (ix2 r 0) = ρ * ρ) : k0_pay318 q qq rr x (ix2 r k) = bitOf q' x' ρ := by
  refine (mask_apply q qq rr x r k).trans ?_
  rw [hqq, hrr]
  simp only [hq, hx]
  rfl

section Pays
variable (R5 : Vec Ideal S1x128x3 .f32) (R6 : Vec Ideal S1x128x1 .f32) (r : Fin 128)

theorem col_apply (k : ℕ) (h : ∀ a, (![0, 0, k] : Fin 3 → ℕ) a + S1x128x1.size a ≤ S1x128x3.size a) (hk : k < 3) :
    R5 ((Rect.unit (s := S1x128x3) ![0, 0, k] S1x128x1.size h).emb (ix3 (0 : Fin 1) r (0 : Fin 1))) = R5 (ix3 (0 : Fin 1) r (⟨k, hk⟩ : Fin 3)) := by
  refine congrArg R5 (funext fun a => Fin.ext ?_)
  fin_cases a
  · rfl
  · show 0 + 1 * r.val = r.val; omega
  · show k + 1 * 0 = k; omega
theorem all6_apply : all6 R6 (ix3 (0 : Fin 1) r (0 : Fin 1)) = R6 (ix3 (0 : Fin 1) r (0 : Fin 1)) := by
  refine congrArg R6 (funext fun a => Fin.ext ?_)
  fin_cases a
  · rfl
  · show 0 + 1 * r.val = r.val; omega
  · rfl
theorem all5_apply (b : Fin 3) : all5 R5 (ix3 (0 : Fin 1) r b) = R5 (ix3 (0 : Fin 1) r b) := by
  refine congrArg R5 (funext fun a => Fin.ext ?_)
  fin_cases a
  · rfl
  · show 0 + 1 * r.val = r.val; omega
  · show 0 + 1 * b.val = b.val; omega
theorem pay6_apply (v : Vec Ideal S1x128x1 .f32) : k0_pay6 v (ix2 r 0) = v (ix3 (0 : Fin 1) r (0 : Fin 1)) := by
  unfold k0_pay6
  pointwise
theorem pay7_apply (v : Vec Ideal S1x128x1 .f32) : k0_pay7 v (ix2 r 0) = v (ix3 (0 : Fin 1) r (0 : Fin 1)) := by
  unfold k0_pay7
  pointwise
theorem pay8_apply (v : Vec Ideal S1x128x1 .f32) : k0_pay8 v (ix2 r 0) = v (ix3 (0 : Fin 1) r (0 : Fin 1)) := by
  unfold k0_pay8
  pointwise
theorem pay9_apply (v : Vec Ideal S1x128x1 .f32) : k0_pay9 v (ix2 r 0) = v (ix3 (0 : Fin 1) r (0 : Fin 1)) := by
  unfold k0_pay9
  pointwise
theorem pay5_apply (v : Vec Ideal S1x128x3 .f32) (a : Fin 3) : k0_pay5 v (ix2 r a) = v (ix3 (0 : Fin 1) r a) := by
  unfold k0_pay5
  pointwise
theorem pay10_apply (v : Vec Ideal S1x128x1 .f32) : k0_pay10 v (ix2 r 0) = (v (ix3 (0 : Fin 1) r (0 : Fin 1)) : EReal) * v (ix3 (0 : Fin 1) r (0 : Fin 1)) := by
  unfold k0_pay10
  pointwise
theorem pay11_apply (u v w : Vec Ideal S1x128x1 .f32) : k0_pay11 u v w (ix2 r 0)
    = ((k0_pay6 u (ix2 r 0) : EReal) * k0_pay6 u (ix2 r 0) + (k0_pay7 v (ix2 r 0) : EReal) * k0_pay7 v (ix2 r 0)) + (k0_pay8 w (ix2 r 0) : EReal) * k0_pay8 w (ix2 r 0) := rfl
end Pays

variable (m : (ℓ : Loc nD τ sig) → Buf (Elt Ideal) ℓ)

/-- The arguments on a device. -/
def argsOf (c : Dev nD) : Args where
  P n a := aP m c (ix2 n a)
  Q n a := aQ m c (ix2 n a)
  ra n := aR m c (ix2 n 0)
  F n a := aF m c (ix2 n a)
  rt := aT m c ix0

/-- The block at a grid point. -/
abbrev blkAt (c : Dev nD) (t : Fin (cfg0 (F := Ideal)).N) : Blk := blk (iblk m c 1 t) (iblk m c 2 t) (iblk m c 3 t) (iblk m c 5 t)

theorem cloud_rowOf (t : Fin (cfg0 (F := Ideal)).N) (r : Fin 128) : (Args.cloud (rowOf t r)).val = t.val / 16 := by
  show (128 * t.val + r.val) / 2048 = t.val / 16
  omega

theorem x_eq (c : Dev nD) (t : Fin (cfg0 (F := Ideal)).N) (r : Fin 128) (j : ℕ) (h : j < 8192) (a : Fin 3) :
    chunk3 (iblk m c 1 t) (BitVec.ofNat 32 (j / 1024)) (chk_of_lt _ (by omega)) (ix4 (0 : Fin 1) (0 : Fin 1) a (⟨j % 1024, Nat.mod_lt _ (by omega)⟩ : Fin 1024))
      = ptX (argsOf m c).P (Args.cloud (rowOf t r)) j a := by
  refine (chunk3_apply _ _ (by omega) a _).trans ((R3_apply m c t _ a _).trans ?_)
  unfold ptX
  rw [dif_pos h]
  refine congrArg (fun R => aP m c (ix2 R a)) (Fin.ext ?_)
  show 8192 * (t.val / 16) + (1024 * (j / 1024) + j % 1024) = 8192 * (Args.cloud (rowOf t r)).val + j
  rw [cloud_rowOf]
  omega

theorem qx_eq (c : Dev nD) (t : Fin (cfg0 (F := Ideal)).N) (r : Fin 128) : k0_pay6 (col0 (iblk m c 3 t)) (ix2 r 0) = (argsOf m c).Q (rowOf t r) 0 :=
  (pay6_apply r _).trans ((col_apply _ r 0 _ (by omega)).trans (R5_apply m c t r 0))
theorem qy_eq (c : Dev nD) (t : Fin (cfg0 (F := Ideal)).N) (r : Fin 128) : k0_pay7 (col1 (iblk m c 3 t)) (ix2 r 0) = (argsOf m c).Q (rowOf t r) 1 :=
  (pay7_apply r _).trans ((col_apply _ r 1 _ (by omega)).trans (R5_apply m c t r 1))
theorem qz_eq (c : Dev nD) (t : Fin (cfg0 (F := Ideal)).N) (r : Fin 128) : k0_pay8 (col2 (iblk m c 3 t)) (ix2 r 0) = (argsOf m c).Q (rowOf t r) 2 :=
  (pay8_apply r _).trans ((col_apply _ r 2 _ (by omega)).trans (R5_apply m c t r 2))

theorem qq_eq (c : Dev nD) (t : Fin (cfg0 (F := Ideal)).N) (r : Fin 128) :
    k0_pay11 (col0 (iblk m c 3 t)) (col1 (iblk m c 3 t)) (col2 (iblk m c 3 t)) (ix2 r 0) = ∑ a, (argsOf m c).Q (rowOf t r) a * (argsOf m c).Q (rowOf t r) a := by
  rw [pay11_apply, qx_eq, qy_eq, qz_eq, Fin.sum_univ_three]

theorem rr_eq (c : Dev nD) (t : Fin (cfg0 (F := Ideal)).N) (r : Fin 128) : k0_pay10 (all6 (iblk m c 5 t)) (ix2 r 0)
    = ((argsOf m c).ra (rowOf t r) + (argsOf m c).rt * Ideal.ofBits .f32 0x40A00000#32) * ((argsOf m c).ra (rowOf t r) + (argsOf m c).rt * Ideal.ofBits .f32 0x40A00000#32) := by
  have e := (all6_apply _ r).trans (R7_apply m c t r)
  refine (pay10_apply r _).trans ?_
  rw [e]
  rfl

theorem bit_eq (c : Dev nD) (t : Fin (cfg0 (F := Ideal)).N) (r : Fin 128) (j : ℕ) : (blkAt m c t).bit r j = (argsOf m c).mem (rowOf t r) j := by
  unfold Blk.bit Args.mem ball
  by_cases h : j < 8192
  · rw [dif_pos h, if_pos h]
    exact mask_eq _ _ _ _ r _ _ _ _ (fun a => (pay5_apply r _ a).trans ((all5_apply _ r a).trans (R5_apply m c t r a))) (x_eq m c t r j h) (qq_eq m c t r) (rr_eq m c t r)
  · rw [dif_neg h, if_neg h]

theorem row_eq (c : Dev nD) (t : Fin (cfg0 (F := Ideal)).N) (r : Fin 128) (d : Fin 67) : (blkAt m c t).row d = (argsOf m c).row (rowOf t r) d := by
  funext j
  unfold Blk.row Args.row rows ptX
  by_cases h : j < 8192
  · rw [dif_pos h]
    refine (R4_apply m c t _ _ d).trans ?_
    have e : ptOf t ⟨1024 * (j / 1024) + j % 1024, by omega⟩ = (⟨8192 * (Args.cloud (rowOf t r)).val + j, by omega⟩ : Fin 32768) := Fin.ext (by
      show 8192 * (t.val / 16) + (1024 * (j / 1024) + j % 1024) = 8192 * (Args.cloud (rowOf t r)).val + j
      rw [cloud_rowOf]
      omega)
    by_cases h3 : d.val < 3
    · rw [dif_pos h3, dif_pos h3, dif_pos h]; exact congrArg (fun R => aP m c (ix2 R _)) e
    · rw [dif_neg h3, dif_neg h3, dif_pos h]; exact congrArg (fun R => aF m c (ix2 R _)) e
  · rw [dif_neg h]
    by_cases h3 : d.val < 3
    · rw [dif_pos h3, dif_neg h]
    · rw [dif_neg h3, dif_neg h]

theorem found (c : Dev nD) (t : Fin (cfg0 (F := Ideal)).N) (r : Fin 128) :
    Found (fun j => (argsOf m c).mem (rowOf t r) j = 1#1) ((argsOf m c).row (rowOf t r)) ((argsOf m c).Q (rowOf t r)) ((argsOf m c).ra (rowOf t r)) (argsOf m c).rt
      (epiAt m c t) r := by
  have hf := (blkAt m c t).final rfl _ rfl r
  have hrow : (blkAt m c t).row = (argsOf m c).row (rowOf t r) := funext (row_eq m c t r)
  have hb : (blkAt m c t).bit r = (argsOf m c).mem (rowOf t r) := funext (bit_eq m c t r)
  unfold Blk.total Blk.inBall at hf
  simp only [hb, hrow] at hf
  obtain ⟨h1, h2, h3⟩ := hf
  refine ⟨h1, h2, h3, ?_, ?_, ?_, ?_, ?_⟩
  · exact qx_eq m c t r
  · exact qy_eq m c t r
  · exact qz_eq m c t r
  · exact (pay9_apply r _).trans ((all6_apply _ r).trans (R6_apply m c t r))
  · exact R2_apply m c t _

end Cert.Proof.PI

end
-- ==== Proof.PI.Arr.lean ====
/-
  The kernel's results, element by element: each window of a result covers it, so it holds what the body stored at each point.
-/
module

public import proofs.«01_k».proof.Proof.PI.Ball

@[expose] public section

noncomputable section

namespace Cert.Proof.PI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-- The arrays the results end as. -/
def nfArr (A : Args) : FVec Ideal S8192x32x67 .f32 := fun i => A.nf (i 0) (i 1).val (i 2)
def wArr (A : Args) : FVec Ideal S8192x32 .f32 := fun i => A.w (i 0) (i 1).val
def ixArr (A : Args) : IVec S8192x32 32 := fun i => A.ix (i 0) (i 1).val

theorem emb6 (t : Fin (cfg0 (F := Ideal)).N) (G : S8192x32x67.Idx → EReal) (r : Fin 128) (n : Fin 32) (d : Fin 67) :
    G ((win0_6.blk t).view.emb (ix3 r n d)) = G (ix3 (rowOf t r) n d) := by
  blk_ext [idx t, rowOf]
theorem emb7 (t : Fin (cfg0 (F := Ideal)).N) (G : S8192x32.Idx → EReal) (r : Fin 128) (n : Fin 32) :
    G ((win0_7.blk t).view.emb (ix2 r n)) = G (ix2 (rowOf t r) n) := by
  blk_ext [idx t, rowOf]
theorem emb8 (t : Fin (cfg0 (F := Ideal)).N) (G : S8192x32.Idx → BitVec 32) (r : Fin 128) (n : Fin 32) :
    G ((win0_8.blk t).view.emb (ix2 r n)) = G (ix2 (rowOf t r) n) := by
  blk_ext [idx t, rowOf]

theorem arr6 (c : Dev nD) : (dats m 0 c).arrAt 6 (cfg0 (F := Ideal)).N = nfArr (argsOf m c) := by
  refine (dats m 0 c).arrAt_eq_of_covers 6 _ (by decide +kernel) fun t hf y => ?_
  blk_simp
  rw [after6]
  obtain ⟨r, n, d, rfl⟩ : ∃ (r : Fin 128) (n : Fin 32) (d : Fin 67), y = ix3 r n d := ⟨y 0, y 1, y 2, ValueIdx.eq_ix3 y⟩
  exact ((found m c t r).nfOut n d).trans (emb6 t (nfArr (argsOf m c)) r n d).symm
theorem arr7 (c : Dev nD) : (dats m 0 c).arrAt 7 (cfg0 (F := Ideal)).N = wArr (argsOf m c) := by
  refine (dats m 0 c).arrAt_eq_of_covers 7 _ (by decide +kernel) fun t hf y => ?_
  blk_simp
  rw [after7]
  obtain ⟨r, n, rfl⟩ : ∃ (r : Fin 128) (n : Fin 32), y = ix2 r n := ⟨y 0, y 1, ValueIdx.eq_ix2 y⟩
  exact ((found m c t r).wOut n).trans (emb7 t (wArr (argsOf m c)) r n).symm
theorem arr8 (c : Dev nD) : (dats m 0 c).arrAt 8 (cfg0 (F := Ideal)).N = ixArr (argsOf m c) := by
  refine (dats m 0 c).arrAt_eq_of_covers 8 _ (by decide +kernel) fun t hf y => ?_
  blk_simp
  rw [after8]
  obtain ⟨r, n, rfl⟩ : ∃ (r : Fin 128) (n : Fin 32), y = ix2 r n := ⟨y 0, y 1, ValueIdx.eq_ix2 y⟩
  exact ((found m c t r).ixOut n).trans (emb8 t (ixArr (argsOf m c)) r n).symm

/-- The first result is the features, their axes swapped. -/
theorem nf_swap (A : Args) (R : Fin 8192) (d : Fin 67) (n : Fin 32) :
    transpose S8192x67x32 [0, 2, 1] (nfArr A) transposes_S8192x32x67_S8192x67x32_0_2_1 (ix3 R d n) = A.nf R n.val d := by
  have e : nfArr A (ix3 R n d) = A.nf R n.val d := rfl
  rw [← e]
  generalize nfArr A = x
  pointwise

end Cert.Proof.PI

end
-- ==== Proof.PI.SortRank.lean ====
/-
  A stable sort by a key that is smaller exactly where `p` holds puts the number of rank `s` at position `s`.
-/
module

public import Idealize.ShloMosaic.Lib.SortPrefix
public import Idealize.ShloMosaic.Lib.PlanTiles.StableSort
public import proofs.«01_k».proof.Proof.PI.Count

@[expose] public section

namespace Cert.Proof.PI

open Idealize.ShloMosaic

variable (p : ℕ → Prop) [DecidablePred p]

/-- First the numbers with `p`, then the others, each kind in order. -/
def lexBefore {n : ℕ} (a b : Fin n) : Bool := decide (¬ p b.val ∧ p a.val) || (decide (p a.val ↔ p b.val) && decide (a < b))

theorem lexBefore_total {n : ℕ} : StrictTotalBefore (lexBefore p (n := n)) where
  irrefl a := by simp [lexBefore]
  trans a b c h1 h2 := by
    simp only [lexBefore, Bool.or_eq_true, Bool.and_eq_true, decide_eq_true_eq, Fin.lt_def] at h1 h2 ⊢
    rcases h1 with ⟨x1, x2⟩ | ⟨x1, x2⟩ <;> rcases h2 with ⟨y1, y2⟩ | ⟨y1, y2⟩
    · exact absurd y2 x1
    · exact Or.inl ⟨fun h => x1 (y1.2 h), x2⟩
    · exact Or.inl ⟨y1, x1.2 y2⟩
    · exact Or.inr ⟨x1.trans y1, by omega⟩
  total a b h := by
    have : a.val ≠ b.val := fun e => h (Fin.ext e)
    simp only [lexBefore, Bool.or_eq_true, Bool.and_eq_true, decide_eq_true_eq, Fin.lt_def]
    by_cases ha : p a.val <;> by_cases hb : p b.val
    · rcases Nat.lt_or_gt_of_ne this with h' | h'
      · exact Or.inl (Or.inr ⟨iff_of_true ha hb, h'⟩)
      · exact Or.inr (Or.inr ⟨iff_of_true hb ha, h'⟩)
    · exact Or.inl (Or.inl ⟨hb, ha⟩)
    · exact Or.inr (Or.inl ⟨ha, hb⟩)
    · rcases Nat.lt_or_gt_of_ne this with h' | h'
      · exact Or.inl (Or.inr ⟨iff_of_false ha hb, h'⟩)
      · exact Or.inr (Or.inr ⟨iff_of_false hb ha, h'⟩)

/-- The stable sort by `p` alone is the sort by that order. -/
theorem sort_eq_lex {n : ℕ} (before : Fin n → Fin n → Bool) (hb : ∀ a b, before a b = decide (¬ p b.val ∧ p a.val)) :
    sortPositions n before = sortPositions n (lexBefore p) := by
  have e : before = fun x y => decide ((fun a : Fin n => if p a.val then 1 else 0) y < (fun a : Fin n => if p a.val then 1 else 0) x) := by
    funext a b
    rw [hb]
    by_cases h1 : p a.val <;> by_cases h2 : p b.val <;> simp [h1, h2]
  refine (lexBefore_total p).eq_stableSort_of_sorted (perm_stableSort _ _) ?_
  have := PlanTiles.pairwise_stableSort_lex (fun a : Fin n => if p a.val then 1 else 0) (· < ·) (List.finRange n) (List.pairwise_lt_finRange n)
  rw [← e] at this
  refine this.imp fun {a b} h => ?_
  rcases h with h | ⟨h, hl⟩
  · by_cases h1 : p a.val <;> by_cases h2 : p b.val <;> simp [lexBefore, h1, h2] at h ⊢
  · have : a.val < b.val := hl
    by_cases h1 : p a.val <;> by_cases h2 : p b.val <;> simp [lexBefore, h1, h2] at h ⊢ <;> omega

/-- Position `s` of the sort comes from the number of rank `s`. -/
theorem sortedFrom_rank {n : ℕ} (before : Fin n → Fin n → Bool) (hb : ∀ a b, before a b = decide (¬ p b.val ∧ p a.val)) (s : Fin n)
    (hs : s.val < Nat.count p n) : (sortedFrom before s).val = nthOf p s.val := by
  have hc : Nat.count p n ≤ n := Nat.count_le p
  let σ : Fin (Nat.count p n) → Fin n := fun i => ⟨nthOf p i.val, (nthOf_lt p n i.val i.isLt).1⟩
  have hσ : ∀ i, p (σ i).val ∧ Nat.count p (σ i).val = i.val := fun i => (nthOf_lt p n i.val i.isLt).2
  have key : sortedFrom (lexBefore p) ((⟨s.val, hs⟩ : Fin (Nat.count p n)).castLE hc) = σ ⟨s.val, hs⟩ := by
    refine (lexBefore_total p).sortedFrom_eq_of_prefix hc σ ?_ ?_ ?_ _
    · intro i j h
      refine Fin.ext ?_
      rw [← (hσ i).2, ← (hσ j).2, h]
    · intro i j hij
      have hlt : (σ i).val < (σ j).val := by
        by_contra h
        have := Nat.count_monotone p (show (σ j).val ≤ (σ i).val by omega)
        rw [(hσ i).2, (hσ j).2] at this
        have : i.val < j.val := hij
        omega
      simp only [lexBefore, (hσ i).1, (hσ j).1, Bool.or_eq_false_iff, Bool.and_eq_false_iff, decide_eq_false_iff_not, Fin.lt_def]
      exact ⟨by simp, Or.inr (by omega)⟩
    · intro i x hx
      have hnx : ¬ p x.val := fun h => by
        have hlt : Nat.count p x.val < Nat.count p n := Nat.count_strict_mono h x.isLt
        exact hx ⟨Nat.count p x.val, hlt⟩ (Fin.ext (nthOf_count p h))
      simp [lexBefore, (hσ i).1, hnx]
  have e : sortedFrom before s = sortedFrom (lexBefore p) s := by
    unfold sortedFrom
    rw [List.get_of_eq (sort_eq_lex p before hb)]
    rfl
  rw [e]
  exact congrArg Fin.val key

end Cert.Proof.PI

end
-- ==== Proof.PI.Ref.lean ====
/-
  The reference's terms, element by element.
-/
module

public import proofs.«01_k».proof.Proof.Gen.ReferenceIdeal.Run
public import proofs.«01_k».proof.Proof.PI.SortRank
public import proofs.«01_k».proof.Proof.PI.Goal
public import Idealize.ShloMosaic.Lib.IndicatorCount
public import Idealize.ShloMosaic.Lib.Routing.Count
public import Idealize.ShloMosaic.Lib.ValueIdx
public import Idealize.ShloMosaic.Lib.Pointwise

@[expose] public section

noncomputable section

namespace Cert.Proof.Ref

open Cert.ReferenceIdeal Cert.ReferenceIdeal.Gen Cert.ReferenceIdeal.Value
open Idealize.ShloMosaic Idealize.ShloMosaic.TcCoe Idealize.SL.Sem
open Cert.Proof.PI

variable (V0 : Valuation τ sig (Elt Ideal))

/-- The points, the queries, the radii and the features the reference takes. -/
abbrev aP : FVec Ideal S32768x3 .f32 := V0 (Proc.devRef .tc main_arg0)
abbrev aQ : FVec Ideal S8192x3 .f32 := V0 (Proc.devRef .tc main_arg2)
abbrev aR : FVec Ideal S8192x1 .f32 := V0 (Proc.devRef .tc main_arg3)
abbrev aF : FVec Ideal S32768x64 .f32 := V0 (Proc.devRef .tc main_arg5)

/-- The arguments. -/
def args : Args where
  P n a := aP V0 (ix2 n a)
  Q n a := aQ V0 (ix2 n a)
  ra n := aR V0 (ix2 n 0)
  F n a := aF V0 (ix2 n a)
  rt := res_main_v1 V0 ix0

/-- Query `i` of cloud `b`. -/
def qOf (b : Fin 4) (i : Fin 2048) : Fin 8192 := ⟨b.val * 2048 + i.val, by omega⟩

theorem cloud_qOf (b : Fin 4) (i : Fin 2048) : Args.cloud (qOf b i) = b := Fin.ext (by
  show (b.val * 2048 + i.val) / 2048 = b.val
  omega)

theorem v26_raw (p : FVec Ideal S32768x3 .f32) (q : FVec Ideal S8192x3 .f32) (r : FVec Ideal S8192x1 .f32) (rt : FVec Ideal S_ .f32)
    (hp : V0 (Proc.devRef .tc main_arg0) = p) (hq : V0 (Proc.devRef .tc main_arg2) = q) (hr : V0 (Proc.devRef .tc main_arg3) = r) (ht : res_main_v1 V0 = rt)
    (b : Fin 4) (i : Fin 2048) (j : Fin 8192) : res_main_v26 V0 (ix3 b i j) = bitOf (fun a => q (ix2 (⟨b.val * 2048 + i.val, by omega⟩ : Fin 8192) a))
      (fun a => p (ix2 (⟨b.val * 8192 + j.val, by omega⟩ : Fin 32768) a))
      ((r (ix2 (⟨b.val * 2048 + i.val, by omega⟩ : Fin 8192) 0) : EReal) + rt ix0 * Ideal.ofBits .f32 0x40A00000#32) := by
  revert hp hq hr ht
  unfold res_main_v26 res_main_v7 res_main_v6 res_main_v8 bitOf
  generalize res_main_v1 V0 = rt'
  generalize V0 (Proc.devRef .tc main_arg0) = p'
  generalize V0 (Proc.devRef .tc main_arg2) = q'
  generalize V0 (Proc.devRef .tc main_arg3) = r'
  intro hp hq hr ht
  subst hp hq hr ht
  pointwise
  rfl

/-- The ball's indicator. -/
theorem v26_apply (b : Fin 4) (i : Fin 2048) (j : Fin 8192) : res_main_v26 V0 (ix3 b i j) = (args V0).mem (qOf b i) j.val := by
  refine (v26_raw V0 _ _ _ _ rfl rfl rfl rfl b i j).trans ?_
  unfold Args.mem ball
  rw [if_pos j.isLt, cloud_qOf]
  have hx : ptX (args V0).P b j.val = fun a => aP V0 (ix2 (⟨b.val * 8192 + j.val, by omega⟩ : Fin 32768) a) := funext fun a => by
    unfold ptX
    rw [dif_pos j.isLt]
    exact congrArg (fun R => aP V0 (ix2 R a)) (Fin.ext (by show 8192 * b.val + j.val = b.val * 8192 + j.val; omega))
  rw [hx]
  rfl

/-- The points in the ball of query `i` of cloud `b`. -/
abbrev inB (b : Fin 4) (i : Fin 2048) (j : ℕ) : Prop := (args V0).mem (qOf b i) j = 1#1

theorem red3 : S4x2048x8192.Reduces [2] S4x2048 := by decide

theorem lift3 (b : Fin 4) (i : Fin 2048) (k : Fin 8192) : red3.lift (ix2 b i) k = ix3 b i k := by
  funext a
  fin_cases a <;> rfl

/-- How many there are. -/
theorem v32_apply (b : Fin 4) (i : Fin 2048) : res_main_v32 V0 (ix2 b i) = BitVec.ofNat 32 (Nat.count (inB V0 b i) 8192) := by
  unfold res_main_v32
  refine (Host.reduce_eq_fold_single IntOp.addi _ _ _ red3 _ _).trans ?_
  have e : (extui 32 (res_main_v26 V0) natLt_1_32) ∘ red3.lift (ix2 b i) = fun k : Fin 8192 => ((args V0).mem (qOf b i) k.val).setWidth 32 := by
    funext k
    exact (congrArg (fun x => (res_main_v26 V0 x).setWidth 32) (lift3 b i k)).trans (congrArg (BitVec.setWidth 32) (v26_apply V0 b i k))
  rw [e]
  refine (Idealize.ShloMosaic.IndicatorCount.fold_addi_setWidth_eq_card (fun k : Fin 8192 => (args V0).mem (qOf b i) k.val) Finset.univ).trans ?_
  exact congrArg (BitVec.ofNat 32) (Routing.card_filter_fin 8192 (inB V0 b i))

theorem v44_apply (b : Fin 4) (i : Fin 2048) : res_main_v44 V0 (ix2 b i) = BitVec.ofBool (decide (Nat.count (inB V0 b i) 8192 = 0)) := by
  have hT : Nat.count (inB V0 b i) 8192 ≤ 8192 := Nat.count_le _
  show IntOp.cmpi .eq (res_main_v32 V0 (ix2 b i)) 0#32 = _
  rw [v32_apply]
  exact empty_eq _ _ (le_refl _) (.inl rfl)

theorem along3 (b : Fin 4) (i : Fin 2048) (s k : Fin 8192) : (ix3 b i s).along 2 k = ix3 b i k := by
  funext a
  fin_cases a <;> rfl

theorem v28_apply (b : Fin 4) (i : Fin 2048) (j : Fin 8192) : res_main_v28 V0 (ix3 b i j) = Scalar.select ((args V0).mem (qOf b i) j.val) 0#32 1#32 := by
  rw [← v26_apply]
  rfl

theorem key_lt (x y : BitVec 1) : (IntOp.cmpi .slt (Scalar.select x 0#32 1#32) (Scalar.select y 0#32 1#32) == 1#1) = decide (¬ y = 1#1 ∧ x = 1#1) := by
  revert x y
  decide

theorem sort2_apply (x y : IVec S4x2048x8192 32) (j : S4x2048x8192.Idx) : (Host.sort2 S4x2048x8192 2 comparator_i32_i32_d2 x y).2 j
    = y (j.along 2 (sortedFrom (fun k k' => comparator_i32_i32_d2 (x (j.along 2 k), y (j.along 2 k)) (x (j.along 2 k'), y (j.along 2 k')) == 1#1) (j 2))) := rfl

theorem count_apply (b : Fin 4) (i : Fin 2048) (s k : Fin 8192) : res_main_call1_v0 V0 ((ix3 b i s).along 2 k) = BitVec.ofNat 32 k.val := by
  rw [along3]
  unfold res_main_call1_v0
  pointwise

theorem before_eq (b : Fin 4) (i : Fin 2048) (s k k' : Fin 8192) :
    (comparator_i32_i32_d2 (res_main_v28 V0 ((ix3 b i s).along 2 k), res_main_call1_v0 V0 ((ix3 b i s).along 2 k))
      (res_main_v28 V0 ((ix3 b i s).along 2 k'), res_main_call1_v0 V0 ((ix3 b i s).along 2 k')) == 1#1)
    = decide (¬ inB V0 b i k'.val ∧ inB V0 b i k.val) := by
  rw [along3, along3]
  show (IntOp.cmpi .slt (res_main_v28 V0 (ix3 b i k)) (res_main_v28 V0 (ix3 b i k')) == 1#1) = _
  rw [v28_apply, v28_apply]
  exact key_lt _ _

/-- The points of the ball come first, in order. -/
theorem v30_apply (b : Fin 4) (i : Fin 2048) (s : Fin 32) (hs : s.val < Nat.count (inB V0 b i) 8192) :
    res_main_v30 V0 (ix3 b i s) = BitVec.ofNat 32 (nthOf (inB V0 b i) s.val) := by
  unfold res_main_v30
  have h0 : ∀ x : IVec S4x2048x8192 32, extractStridedSlice S4x2048x32 ![0, 0, 0] x slices_S4x2048x8192_S4x2048x32_0_0_0 (ix3 b i s)
      = x (ix3 b i (⟨s.val, by omega⟩ : Fin 8192)) := fun x => by pointwise
  refine (h0 _).trans ((sort2_apply _ _ _).trans ((count_apply V0 b i _ _).trans ?_))
  exact congrArg (BitVec.ofNat 32) (sortedFrom_rank (inB V0 b i) _ (before_eq V0 b i _) (⟨s.val, by omega⟩ : Fin 8192) hs)

/-- The numbers chosen, by cloud. -/
def picks : IVec S4x2048x32 32 := select (broadcastInDim S4x2048x32 ![0, 1, 2] bcast_S4x2048x1_S4x2048x32_0_1_2 (broadcastInDim S4x2048x1 ![0, 1] bcast_S4x2048_S4x2048x1_0_1 (res_main_v44 V0))) (broadcastInDim S4x2048x32 ![] bcast_S_S4x2048x32 (id (constantI S_ 32 0#32))) (select (cmpi .slt (broadcastInDim S4x2048x32 ![0, 1, 2] bcast_S1x1x32_S4x2048x32_0_1_2 (broadcastInDim S1x1x32 ![2] bcast_S32_S1x1x32_2 (iotaInDim S32 32 0))) (broadcastInDim S4x2048x32 ![0, 1, 2] bcast_S4x2048x1_S4x2048x32_0_1_2 (broadcastInDim S4x2048x1 ![0, 1] bcast_S4x2048_S4x2048x1_0_1 (maxsi (res_main_v32 V0) (broadcastInDim S4x2048 ![] bcast_S_S4x2048 (constantI S_ 32 1#32)))))) (res_main_v30 V0) (broadcastInDim S4x2048x32 ![0, 1, 2] bcast_S4x2048x1_S4x2048x32_0_1_2 (extractStridedSlice S4x2048x1 ![0, 0, 0] (res_main_v30 V0) slices_S4x2048x32_S4x2048x1_0_0_0)))

theorem picks_apply (b : Fin 4) (i : Fin 2048) (n : Fin 32) : picks V0 (ix3 b i n) = (args V0).ix (qOf b i) n.val := by
  have e : picks V0 (ix3 b i n) = Scalar.select (res_main_v44 V0 (ix2 b i)) 0#32
      (Scalar.select (IntOp.cmpi .slt (BitVec.ofNat 32 n.val) (IntOp.maxsi (res_main_v32 V0 (ix2 b i)) 1#32)) (res_main_v30 V0 (ix3 b i n)) (res_main_v30 V0 (ix3 b i 0))) := by
    unfold picks
    generalize res_main_v44 V0 = x
    generalize res_main_v32 V0 = y
    generalize res_main_v30 V0 = z
    pointwise
    rfl
  have hT : Nat.count (inB V0 b i) 8192 ≤ 8192 := Nat.count_le _
  have hn := n.isLt
  rw [e, v44_apply, v32_apply, max_small _ (by omega), lt_small _ _ (by omega) (by omega), select_bool, select_bool]
  unfold Args.ix ixSpec slotNo
  by_cases h0 : Nat.count (inB V0 b i) 8192 = 0
  · rw [if_pos h0, if_pos h0]; rfl
  rw [if_neg h0, if_neg h0]
  by_cases h1 : n.val < Nat.count (inB V0 b i) 8192
  · rw [if_pos (by omega), if_pos h1, v30_apply V0 b i n h1]
  · rw [if_neg (by omega), if_neg h1, v30_apply V0 b i 0 (by show 0 < _; omega)]; rfl

/-- A query's cloud, and its number in it. -/
theorem qOf_eq (R : Fin 8192) : qOf (Args.cloud R) (⟨R.val % 2048, Nat.mod_lt _ (by omega)⟩ : Fin 2048) = R := Fin.ext (by
  show R.val / 2048 * 2048 + R.val % 2048 = R.val
  omega)

theorem v47_apply (R : Fin 8192) (n : Fin 32) : shapeCast S8192x32 (picks V0) shapeCasts_S4x2048x32_S8192x32 (ix2 R n) = (args V0).ix R n.val := by
  have e : ∀ x : IVec S4x2048x32 32, shapeCast S8192x32 x shapeCasts_S4x2048x32_S8192x32 (ix2 R n) = x (ix3 (Args.cloud R) (⟨R.val % 2048, Nat.mod_lt _ (by omega)⟩ : Fin 2048) n) := fun x => by
    unfold Args.cloud
    pointwise
  rw [e, picks_apply, qOf_eq]

theorem v48_apply (R : Fin 8192) : res_main_v48 V0 (ix1 R) = BitVec.ofBool (decide (Nat.count (fun j => (args V0).mem R j = 1#1) 8192 = 0)) := by
  have e : res_main_v48 V0 (ix1 R) = res_main_v44 V0 (ix2 (Args.cloud R) (⟨R.val % 2048, Nat.mod_lt _ (by omega)⟩ : Fin 2048)) := by
    unfold res_main_v48 Args.cloud
    generalize res_main_v44 V0 = x
    pointwise
  rw [e, v44_apply]
  unfold inB
  rw [qOf_eq]

theorem mul_cloud : ∀ k < 4, IntOp.muli (BitVec.ofNat 32 k) 8192#32 = BitVec.ofNat 32 (8192 * k) := by decide

/-- The row of the gather: the point's number among all points. -/
theorem v56_apply (R : Fin 8192) (n : Fin 32) : res_main_v56 V0 (ix2 R n) = (args V0).ix R n.val + BitVec.ofNat 32 (8192 * (Args.cloud R).val) := by
  rw [← v47_apply]
  unfold res_main_v56
  show _ + _ = _
  refine congrArg₂ (· + ·) rfl ?_
  unfold Args.cloud
  pointwise
  exact mul_cloud _ (by omega)

/-- The gather's row numbers, in range. -/
def rowNo (R : Fin 8192) (n : ℕ) : ℕ := if Nat.count (fun j => (args V0).mem R j = 1#1) 8192 = 0 then 8192 * (Args.cloud R).val
  else 8192 * (Args.cloud R).val + slotNo (fun j => (args V0).mem R j = 1#1) n

theorem rowNo_lt (R : Fin 8192) (n : ℕ) : rowNo V0 R n < 32768 := by
  have hc := (Args.cloud R).isLt
  unfold rowNo
  split
  · omega
  · have := slotNo_lt (fun j => (args V0).mem R j = 1#1) n ‹_›
    omega

theorem v56_eq (R : Fin 8192) (n : Fin 32) : res_main_v56 V0 (ix2 R n) = BitVec.ofNat 32 (rowNo V0 R n.val) := by
  rw [v56_apply]
  unfold Args.ix ixSpec rowNo
  split
  · show 0#32 + _ = _
    rw [BitVec.zero_add]
  · rw [← BitVec.ofNat_add, Nat.add_comm]

theorem call4_apply (R : Fin 8192) (n : Fin 32) : res_main_call4_v5 V0 (ix3 R n (0 : Fin 1)) = BitVec.ofNat 32 (rowNo V0 R n.val) := by
  have e : res_main_call4_v5 V0 (ix3 R n (0 : Fin 1)) = Scalar.select (IntOp.cmpi .slt (res_main_v56 V0 (ix2 R n)) 0#32) (IntOp.addi (res_main_v56 V0 (ix2 R n)) 32768#32) (res_main_v56 V0 (ix2 R n)) := by
    unfold res_main_call4_v5
    generalize res_main_v56 V0 = x
    pointwise
  have hl := rowNo_lt V0 R n.val
  rw [e, v56_eq, show (0#32 : BitVec 32) = BitVec.ofNat 32 0 from rfl, lt_small _ _ (by omega) (by omega), select_bool, if_neg (by omega)]

theorem red1 : S8192x32x1.Reduces [2] S8192x32 := by decide

theorem lift1 (R : Fin 8192) (n : Fin 32) (k : Fin 1) : red1.lift (ix2 R n) k = ix3 R n k := by
  funext a
  fin_cases a <;> rfl

/-- Every row number is in range. -/
def inRange : IVec S8192x32 1 := Host.reduce IntOp.andi (andi (cmpi .sge (res_main_call4_v5 V0) (broadcastInDim S8192x32x1 ![] bcast_S_S8192x32x1 (constantI S_ 32 0#32))) (cmpi .sle (res_main_call4_v5 V0) (broadcastInDim S8192x32x1 ![0, 1, 2] bcast_S1x1x1_S8192x32x1_0_1_2 (broadcastInDim S1x1x1 ![2] bcast_S1_S1x1x1_2 (constantI S1 32 32767#32))))) (constantI S_ 1 1#1) reducesTo_S8192x32x1_S8192x32_d2 h_S_

theorem inRange_apply (R : Fin 8192) (n : Fin 32) : inRange V0 (ix2 R n) = 1#1 := by
  have hl := rowNo_lt V0 R n.val
  unfold inRange
  refine (Host.reduce_eq_fold_single IntOp.andi _ _ _ red1 _ _).trans ?_
  have e : ∀ k : Fin 1, (andi (cmpi .sge (res_main_call4_v5 V0) (broadcastInDim S8192x32x1 ![] bcast_S_S8192x32x1 (constantI S_ 32 0#32))) (cmpi .sle (res_main_call4_v5 V0) (broadcastInDim S8192x32x1 ![0, 1, 2] bcast_S1x1x1_S8192x32x1_0_1_2 (broadcastInDim S1x1x1 ![2] bcast_S1_S1x1x1_2 (constantI S1 32 32767#32))))) (red1.lift (ix2 R n) k) = 1#1 := fun k => by
    obtain rfl : k = 0 := Subsingleton.elim _ _
    refine (congrArg _ (lift1 R n 0)).trans ?_
    show IntOp.andi (IntOp.cmpi .sge (res_main_call4_v5 V0 (ix3 R n (0 : Fin 1))) (BitVec.ofNat 32 0)) (IntOp.cmpi .sle (res_main_call4_v5 V0 (ix3 R n (0 : Fin 1))) (BitVec.ofNat 32 32767)) = 1#1
    rw [call4_apply, ge_small _ _ (by omega) (by omega), le_small _ _ (by omega) (by omega), decide_eq_true (by omega), decide_eq_true (by omega)]
    rfl
  exact (Finset.fold_congr (fun k _ => e k)).trans (by decide)

/-- The gather's dimension numbers: whole rows of an array of `C` columns, one for each entry of an index array. -/
abbrev rowsDims (C : ℕ) (wf : GatherDims.WF ⟨2, ![32768, C]⟩ ⟨3, ![8192, 32, 1]⟩ ⟨3, ![8192, 32, C]⟩ [2] [0] [] [0] [] 2 ![1, C]) :
    GatherDims ⟨2, ![32768, C]⟩ ⟨3, ![8192, 32, 1]⟩ ⟨3, ![8192, 32, C]⟩ where
  offsetDims := [2]
  collapsedSliceDims := [0]
  operandBatchingDims := []
  startIndicesBatchingDims := []
  startIndexMap := [0]
  indexVectorDim := 2
  sliceSizes := ![1, C]
  wf := wf

theorem gather_rows {C : ℕ} (wf : GatherDims.WF ⟨2, ![32768, C]⟩ ⟨3, ![8192, 32, 1]⟩ ⟨3, ![8192, 32, C]⟩ [2] [0] [] [0] [] 2 ![1, C])
    (x : (⟨2, ![32768, C]⟩ : Shape).Idx → EReal) (ids : IVec ⟨3, ![8192, 32, 1]⟩ 32) (R : Fin 8192) (n : Fin 32) (d : Fin C) (k : ℕ) (hk : k < 32768)
    (h : ids (ix3 R n (0 : Fin 1)) = BitVec.ofNat 32 k) : Host.gather (rowsDims C wf) x ids (ix3 R n d) = x (ix2 (⟨k, hk⟩ : Fin 32768) d) := by
  refine congrArg x (funext fun a => Fin.ext ?_)
  show (rowsDims C wf).start (ix3 R n d) ids a + (rowsDims C wf).batchCoord (ix3 R n d) a + (rowsDims C wf).offCoord (ix3 R n d) a = _
  rw [GatherDims.batchCoord_eq_zero _ _ _ List.not_mem_nil, Nat.add_zero]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ (rowsDims C wf).startIndexMap from List.mem_singleton.mpr rfl)]
    have hsi : (rowsDims C wf).siIdx (ix3 R n d) ⟨List.idxOf (0 : Fin 2) (rowsDims C wf).startIndexMap, List.idxOf_lt_length_iff.2 (List.mem_singleton.mpr rfl)⟩
        = ix3 R n (0 : Fin 1) := by
      funext b
      refine Fin.ext ?_
      match b with
      | ⟨0, _⟩ => rfl
      | ⟨1, _⟩ => rfl
      | ⟨2, _⟩ => rfl
    rw [hsi, h, toInt_small k (by omega)]
    show min k (32768 - 1) = k
    omega
  · have hs : (rowsDims C wf).start (ix3 R n d) ids 1 = 0 := by
      unfold GatherDims.start
      exact dif_neg (show (1 : Fin 2) ∉ ([0] : List (Fin 2)) by decide)
    rw [hs]
    unfold GatherDims.offCoord
    rw [dif_pos ((GatherDims.mem_sKept _ _).mpr ⟨show (1 : Fin 2) ∉ ([0] : List (Fin 2)) by decide, List.not_mem_nil⟩), Nat.zero_add]
    rfl

end Cert.Proof.Ref

end
-- ==== Proof.PI.RefOut.lean ====
/-
  The reference's results, element by element.
-/
module

public import proofs.«01_k».proof.Proof.PI.Ref

@[expose] public section

noncomputable section

namespace Cert.Proof.Ref

open Cert.ReferenceIdeal Cert.ReferenceIdeal.Gen Cert.ReferenceIdeal.Value
open Idealize.ShloMosaic Idealize.ShloMosaic.TcCoe Idealize.SL.Sem
open Cert.Proof.PI

variable (V0 : Valuation τ sig (Elt Ideal))

theorem call6_apply (R : Fin 8192) (n : Fin 32) : res_main_call6_v5 V0 (ix3 R n (0 : Fin 1)) = BitVec.ofNat 32 (rowNo V0 R n.val) := by
  rw [← call4_apply]
  unfold res_main_call6_v5 res_main_call4_v5
  rfl

/-- The coordinates relative to the query's, of the rows `g` gathered. -/
def relTerm (e : IVec S8192 1) (y : IVec S8192x32 1) (g : FVec Ideal S8192x32x3 .f32) (q : FVec Ideal S8192x3 .f32) : FVec Ideal S8192x3x32 .f32 :=
  select (broadcastInDim S8192x3x32 ![0, 1, 2] bcast_S8192x1x1_S8192x3x32_0_1_2 (broadcastInDim S8192x1x1 ![0] bcast_S8192_S8192x1x1_0 e)) (broadcastInDim S8192x3x32 ![] bcast_S_S8192x3x32 (id (constant S_ .f32 0x00000000#32))) (subf (transpose S8192x3x32 [0, 2, 1] (select (broadcastInDim S8192x32x3 ![0, 1] bcast_S8192x32_S8192x32x3_0_1 y) g (broadcastInDim S8192x32x3 ![] bcast_S_S8192x32x3 (constant S_ .f32 0x7FC00000#32))) transposes_S8192x32x3_S8192x3x32_0_2_1) (broadcastInDim S8192x3x32 ![0, 1, 2] bcast_S8192x3x1_S8192x3x32_0_1_2 (broadcastInDim S8192x3x1 ![0, 1] bcast_S8192x3_S8192x3x1_0_1 q)))

/-- The features of the rows `g` gathered. -/
def featTerm (e : IVec S8192 1) (y : IVec S8192x32 1) (g : FVec Ideal S8192x32x64 .f32) : FVec Ideal S8192x64x32 .f32 :=
  select (broadcastInDim S8192x64x32 ![0, 1, 2] bcast_S8192x1x1_S8192x64x32_0_1_2 (broadcastInDim S8192x1x1 ![0] bcast_S8192_S8192x1x1_0 e)) (broadcastInDim S8192x64x32 ![] bcast_S_S8192x64x32 (id (constant S_ .f32 0x00000000#32))) (transpose S8192x64x32 [0, 2, 1] (select (broadcastInDim S8192x32x64 ![0, 1] bcast_S8192x32_S8192x32x64_0_1 y) g (broadcastInDim S8192x32x64 ![] bcast_S_S8192x32x64 (constant S_ .f32 0x7FC00000#32))) transposes_S8192x32x64_S8192x64x32_0_2_1)

theorem zero_apply : id (constant (F := Ideal) S_ .f32 0x00000000#32) ix0 = (0 : EReal) := by
  show (constant (F := Ideal) S_ .f32 0x00000000#32) ix0 = (0 : EReal)
  pointwise

theorem relTerm_apply (e : IVec S8192 1) (y : IVec S8192x32 1) (g : FVec Ideal S8192x32x3 .f32) (q : FVec Ideal S8192x3 .f32) (R : Fin 8192) (a : Fin 3) (n : Fin 32)
    (hy : y (ix2 R n) = 1#1) : relTerm e y g q (ix3 R a n) = Scalar.select (e (ix1 R)) (0 : EReal) ((g (ix3 R n a) : EReal) - q (ix2 R a)) := by
  unfold relTerm
  pointwise
  rw [hy, zero_apply]
  rfl

theorem featTerm_apply (e : IVec S8192 1) (y : IVec S8192x32 1) (g : FVec Ideal S8192x32x64 .f32) (R : Fin 8192) (a : Fin 64) (n : Fin 32)
    (hy : y (ix2 R n) = 1#1) : featTerm e y g (ix3 R a n) = Scalar.select (e (ix1 R)) (0 : EReal) (g (ix3 R n a)) := by
  unfold featTerm
  pointwise
  rw [hy, zero_apply]
  rfl

/-- The points chosen, out of the arrays over all points. -/
theorem ptX_row {k : ℕ} (X : FVec Ideal ⟨2, ![32768, k]⟩ .f32) (R : Fin 8192) (n : ℕ) (a : Fin k) (h : Nat.count (fun j => (args V0).mem R j = 1#1) 8192 ≠ 0) :
    ptX (fun n a => X (ix2 n a)) (Args.cloud R) (slotNo (fun j => (args V0).mem R j = 1#1) n) a = X (ix2 (⟨rowNo V0 R n, rowNo_lt V0 R n⟩ : Fin 32768) a) := by
  have e : rowNo V0 R n = 8192 * (Args.cloud R).val + slotNo (fun j => (args V0).mem R j = 1#1) n := by
    unfold rowNo
    rw [if_neg h]
  unfold ptX
  rw [dif_pos (slotNo_lt _ n h)]
  have key : ∀ (k k' : ℕ) (hk : k < 32768) (hk' : k' < 32768), k = k' → X (ix2 (⟨k, hk⟩ : Fin 32768) a) = X (ix2 (⟨k', hk'⟩ : Fin 32768) a) := by
    rintro k _ hk hk' rfl
    rfl
  exact key _ _ _ _ e.symm

theorem v63_apply (R : Fin 8192) (a : Fin 3) (n : Fin 32) : res_main_v63 V0 (ix3 R a n)
    = relAt (fun j => (args V0).mem R j = 1#1) ((args V0).row R) ((args V0).Q R) n.val a := by
  have e : res_main_v63 V0 = relTerm (res_main_v48 V0) (inRange V0)
      (Host.gather gather_S32768x3_S8192x32x1_S8192x32x3_2_0_n_n_0_2_13 (aP V0) (res_main_call4_v5 V0)) (aQ V0) := by
    unfold res_main_v63 relTerm inRange
    rfl
  rw [e, relTerm_apply _ _ _ _ R a n (inRange_apply V0 R n), v48_apply, select_bool]
  unfold relAt
  by_cases h : Nat.count (fun j => (args V0).mem R j = 1#1) 8192 = 0
  · rw [if_pos h, if_pos h]
  rw [if_neg h, if_neg h]
  refine congrArg₂ (fun x y : EReal => x - y) ?_ rfl
  refine (gather_rows gather_S32768x3_S8192x32x1_S8192x32x3_2_0_n_n_0_2_13.wf (aP V0) (res_main_call4_v5 V0) R n a _ (rowNo_lt V0 R n.val) (call4_apply V0 R n)).trans ?_
  unfold Args.row rows
  rw [dif_pos (show (⟨a.val, by omega⟩ : Fin 67).val < 3 from a.isLt)]
  exact (ptX_row V0 (aP V0) R n.val a h).symm

/-- The features found. -/
theorem v84_apply (R : Fin 8192) (d : Fin 67) (n : Fin 32) :
    concatenate S8192x67x32 1 [⟨S8192x3x32, res_main_v63 V0⟩, ⟨S8192x64x32, featTerm (res_main_v48 V0) (inRange V0)
      (Host.gather gather_S32768x64_S8192x32x1_S8192x32x64_2_0_n_n_0_2_164 (aF V0) (res_main_call6_v5 V0))⟩] concatenates_S8192x3x32_S8192x64x32_S8192x67x32_d1 (ix3 R d n)
    = (args V0).nf R n.val d := by
  have e : ∀ (x : FVec Ideal S8192x3x32 .f32) (y : FVec Ideal S8192x64x32 .f32), concatenate S8192x67x32 1 [⟨S8192x3x32, x⟩, ⟨S8192x64x32, y⟩]
      concatenates_S8192x3x32_S8192x64x32_S8192x67x32_d1 (ix3 R d n) = if h : d.val < 3 then x (ix3 R (⟨d.val, h⟩ : Fin 3) n) else y (ix3 R (⟨d.val - 3, by omega⟩ : Fin 64) n) :=
    fun x y => by pointwise
  refine (e _ _).trans ?_
  unfold Args.nf nfSpec
  by_cases h3 : d.val < 3
  · rw [dif_pos h3, dif_pos h3]; exact v63_apply V0 R _ n
  rw [dif_neg h3, dif_neg h3]
  refine (featTerm_apply _ _ _ R _ n (inRange_apply V0 R n)).trans ?_
  rw [v48_apply, select_bool]
  by_cases h : Nat.count (fun j => (args V0).mem R j = 1#1) 8192 = 0
  · rw [if_pos h, if_pos h]
  rw [if_neg h, if_neg h]
  refine (gather_rows gather_S32768x64_S8192x32x1_S8192x32x64_2_0_n_n_0_2_164.wf (aF V0) (res_main_call6_v5 V0) R n _ _ (rowNo_lt V0 R n.val) (call6_apply V0 R n)).trans ?_
  unfold Args.row rows
  rw [dif_neg h3]
  exact (ptX_row V0 (aF V0) R n.val _ h).symm

/-- The weights, of relative coordinates `x`, radii `r` and a temperature. -/
def wTerm (x : FVec Ideal S8192x3x32 .f32) (r : FVec Ideal S8192x1 .f32) (t : FVec Ideal S_ .f32) : FVec Ideal S8192x32 .f32 :=
  subf (broadcastInDim S8192x32 ![] bcast_S_S8192x32 (constant S_ .f32 0x3F800000#32)) (Host.divf (broadcastInDim S8192x32 ![] bcast_S_S8192x32 (constant S_ .f32 0x3F800000#32)) (addf (broadcastInDim S8192x32 ![] bcast_S_S8192x32 (constant S_ .f32 0x3F800000#32)) (Host.exp (Host.negf (Host.divf (subf (Host.sqrt (Host.reduceAdd (mulf x x) (constant S_ .f32 0x00000000#32) reducesTo_S8192x3x32_S8192x32_d1 h_S_)) (broadcastInDim S8192x32 ![0, 1] bcast_S8192x1_S8192x32_0_1 r)) (broadcastInDim S8192x32 ![] bcast_S_S8192x32 (id t)))))))

theorem wTerm_apply (x : FVec Ideal S8192x3x32 .f32) (r : FVec Ideal S8192x1 .f32) (t : FVec Ideal S_ .f32) (R : Fin 8192) (n : Fin 32) : wTerm x r t (ix2 R n)
    = (1 : EReal) - Ideal.logistic (Ideal.div (Ideal.sqrt (∑ a : Fin 3, (x (ix3 R a n) : EReal) * x (ix3 R a n)) - r (ix2 R 0)) (t ix0)) := by
  unfold wTerm
  pointwise
  rfl

theorem wTerm_of (x : FVec Ideal S8192x3x32 .f32) (r : FVec Ideal S8192x1 .f32) (t : FVec Ideal S_ .f32) (R : Fin 8192) (n : Fin 32) (f : Fin 3 → EReal)
    (hx : ∀ a, x (ix3 R a n) = f a) : wTerm x r t (ix2 R n) = (1 : EReal) - Ideal.logistic (Ideal.div (Ideal.sqrt (∑ a, f a * f a) - r (ix2 R 0)) (t ix0)) :=
  (wTerm_apply x r t R n).trans (by simp only [hx])

/-- Their weights. -/
theorem v79_apply (R : Fin 8192) (n : Fin 32) : wTerm (res_main_v63 V0) (aR V0) (res_main_v1 V0) (ix2 R n) = (args V0).w R n.val :=
  wTerm_of _ _ _ R n _ fun a => v63_apply V0 R a n

end Cert.Proof.Ref

end
-- ==== Proof.PI.Value.lean ====
/-
  The kernel and the reference end in the same results.
-/
module

public import proofs.«01_k».proof.Defs
public import proofs.«01_k».proof.Proof.PI.Arr
public import proofs.«01_k».proof.Proof.PI.RefOut
public import Idealize.ShloMosaic.Adequacy
public import Idealize.ShloMosaic.Init

@[expose] public section

noncomputable section

namespace Cert.Proof

open Idealize.ShloMosaic Idealize.ShloMosaic.TcCoe Idealize.SL.Sem
open Idealize.ShloMosaic.StableHlo (launchContents)
open Cert.Proof.PI (Args argsOf wArr ixArr nfArr)

/-- The features found, as the first result holds them. -/
def nfOut (A : Args) : (⟨3, ![8192, 67, 32]⟩ : Shape).Idx → EReal := fun i => A.nf (i 0) (i 2).val (i 1)

/-- The kernel ends in the results of its arguments. -/
theorem kernel_results (m : (ℓ : Loc Cert.KernelIdeal.nD Cert.KernelIdeal.τ Cert.KernelIdeal.sig) → Buf (Elt Ideal) ℓ) (c : Dev Cert.KernelIdeal.nD) :
    transpose Cert.KernelIdeal.S8192x67x32 [0, 2, 1] ((Cert.Proof.PI.dats m 0 c).arrAt 6 (Cert.KernelIdeal.cfg0 (F := Ideal)).N)
      Cert.KernelIdeal.Gen.transposes_S8192x32x67_S8192x67x32_0_2_1 = nfOut (argsOf m c) := by
  refine (congrArg (fun x => transpose Cert.KernelIdeal.S8192x67x32 [0, 2, 1] x Cert.KernelIdeal.Gen.transposes_S8192x32x67_S8192x67x32_0_2_1) (Cert.Proof.PI.arr6 m c)).trans ?_
  funext i
  obtain ⟨R, d, n, rfl⟩ : ∃ (R : Fin 8192) (d : Fin 67) (n : Fin 32), i = ix3 R d n := ⟨i 0, i 1, i 2, ValueIdx.eq_ix3 i⟩
  exact Cert.Proof.PI.nf_swap _ R d n

section Reference
variable (V0 : Valuation Cert.ReferenceIdeal.τ Cert.ReferenceIdeal.sig (Elt Ideal))
open Cert.ReferenceIdeal Cert.ReferenceIdeal.Gen Cert.ReferenceIdeal.Value Cert.Proof.Ref

theorem ref_nf : concatenate S8192x67x32 1 [⟨S8192x3x32, res_main_v63 V0⟩, ⟨S8192x64x32, featTerm (res_main_v48 V0) (inRange V0)
      (Host.gather gather_S32768x64_S8192x32x1_S8192x32x64_2_0_n_n_0_2_164 (aF V0) (res_main_call6_v5 V0))⟩] concatenates_S8192x3x32_S8192x64x32_S8192x67x32_d1
    = nfOut (args V0) := by
  funext i
  obtain ⟨R, d, n, rfl⟩ : ∃ (R : Fin 8192) (d : Fin 67) (n : Fin 32), i = ix3 R d n := ⟨i 0, i 1, i 2, ValueIdx.eq_ix3 i⟩
  exact v84_apply V0 R d n
theorem ref_w : wTerm (res_main_v63 V0) (aR V0) (res_main_v1 V0) = wArr (args V0) := by
  funext i
  obtain ⟨R, n, rfl⟩ : ∃ (R : Fin 8192) (n : Fin 32), i = ix2 R n := ⟨i 0, i 1, ValueIdx.eq_ix2 i⟩
  exact v79_apply V0 R n
theorem ref_ix : shapeCast S8192x32 (picks V0) shapeCasts_S4x2048x32_S8192x32 = ixArr (args V0) := by
  funext i
  obtain ⟨R, n, rfl⟩ : ∃ (R : Fin 8192) (n : Fin 32), i = ix2 R n := ⟨i 0, i 1, ValueIdx.eq_ix2 i⟩
  exact v47_apply V0 R n
end Reference

/-- From the same arguments, the kernel over the extended reals and the reference over them end in the same results. -/
theorem algebraic : Cert.algebraic_KernelIdeal_ReferenceIdeal := by
  intro m g m' g' _ hagree
  have hA : ∀ c, Cert.Proof.Ref.args (launchContents m' c) = argsOf m c := fun c => by
    obtain ⟨h0, _, h2, h3, _, h5, h6⟩ := hagree c
    have e0 : ∀ (n : Fin 32768) (a : Fin 3), (Cert.Proof.Ref.args (launchContents m' c)).P n a = (argsOf m c).P n a := fun n a => congrFun h0 (ix2 n a)
    have e2 : ∀ (n : Fin 8192) (a : Fin 3), (Cert.Proof.Ref.args (launchContents m' c)).Q n a = (argsOf m c).Q n a := fun n a => congrFun h2 (ix2 n a)
    have e3 : ∀ (n : Fin 8192), (Cert.Proof.Ref.args (launchContents m' c)).ra n = (argsOf m c).ra n := fun n => congrFun h3 (ix2 n 0)
    have e5 : ∀ (n : Fin 32768) (a : Fin 64), (Cert.Proof.Ref.args (launchContents m' c)).F n a = (argsOf m c).F n a := fun n a => congrFun h5 (ix2 n a)
    have e6 : (Cert.Proof.Ref.args (launchContents m' c)).rt = (argsOf m c).rt :=
      congrArg (fun x : IVec Cert.KernelIdeal.S_ 32 => mulf (constant (F := Ideal) Cert.KernelIdeal.S_ .f32 0x3CA3D70A#32) (sitofp .f32 x) ix0) h6
    exact Args.ext (funext fun n => funext fun a => e0 n a) (funext fun n => funext fun a => e2 n a) (funext e3) (funext fun n => funext fun a => e5 n a) e6
  refine ⟨fun c => nfOut (argsOf m c), fun c => wArr (argsOf m c), fun c => ixArr (argsOf m c), ?_, ?_⟩
  · refine (θ_run _ _ _).mono (fun r h c => ?_) (Cert.Proof.PI.run m g)
    obtain ⟨h1, h2, h3, h4⟩ := h c
    exact ⟨h1.trans (kernel_results m c), h2.trans (Cert.Proof.PI.arr7 m c), h3.trans (Cert.Proof.PI.arr8 m c), h4⟩
  · refine (θ_run _ _ _).mono (fun r h c => ?_) (Cert.ReferenceIdeal.Value.run (F := Ideal) m' g')
    obtain ⟨h1, h2, h3, h4⟩ := h c
    exact ⟨h1.trans ((ref_nf (launchContents m' c)).trans (congrArg nfOut (hA c))), h2.trans ((ref_w (launchContents m' c)).trans (congrArg wArr (hA c))),
      h3.trans ((ref_ix (launchContents m' c)).trans (congrArg ixArr (hA c))), h4⟩

end Cert.Proof

end
-- ==== Proof.lean ====
/-
  The proof of `Cert.Claim`: the frames of the kernel, of the kernel over the extended reals and of the reference; that the
  kernel over the extended reals is the printed kernel; and that it and the reference end in the same results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Kernel.Frame
public import proofs.«01_k».proof.Proof.KernelIdeal.Frame
public import proofs.«01_k».proof.Proof.PI.Value
public import Idealize.ShloMosaic.Adequacy
public import Idealize.ShloMosaic.Init

@[expose] public section

noncomputable section

namespace Cert.Proof

open Idealize.ShloMosaic Idealize.SL.Sem Cert.Kernel

/-- The printed kernel runs, its arguments end as they were and every semaphore counter at zero. -/
theorem frame_kernel : Cert.quiescent_Kernel := fun m ρ _ =>
  (θ_run _ _ _).mono (fun _ h => ⟨fun c => ⟨h.1 c _ (by decide), h.1 c _ (by decide), h.1 c _ (by decide), h.1 c _ (by decide),
    h.1 c _ (by decide), h.1 c _ (by decide), h.1 c _ (by decide)⟩, h.2⟩) (Cert.Proof.Kernel.run (F := Bits) m ρ)

/-- The kernel over the extended reals runs, its arguments end as they were and every semaphore counter at zero. -/
theorem frame_kernelIdeal : Cert.quiescent_KernelIdeal := fun m ρ _ =>
  (θ_run _ _ _).mono (fun _ h => ⟨fun c => ⟨h.1 c _ (by decide), h.1 c _ (by decide), h.1 c _ (by decide), h.1 c _ (by decide),
    h.1 c _ (by decide), h.1 c _ (by decide), h.1 c _ (by decide)⟩, h.2⟩) (Cert.Proof.KernelIdeal.run (F := Ideal) m ρ)

/-- The reference over the extended reals runs and its arguments end as they were; it has no semaphore. -/
theorem frame_referenceIdeal : Cert.quiescent_ReferenceIdeal := fun m ρ _ =>
  (θ_run _ _ _).mono (fun r h => ⟨fun c => (h c).2.2.2, sem_eq_zero_of_no_sems (by decide) r.2⟩)
    (Cert.ReferenceIdeal.Value.run (F := Ideal) m ρ)

/-- The claims together. -/
theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
